-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quotients_in_range [hPre_quotients_in_range : Cert.Pre_quotients_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_quotients_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quotients_in_range [hPre_quotients_in_range : Cert.Pre_quotients_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quotients_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_quotients_in_range [hKernelIdeal : Cert.KernelIdeal.Facts] [hPre_quotients_in_range : Cert.Pre_quotients_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quotients_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_quotients_in_range [hReferenceIdeal : Cert.ReferenceIdeal.Facts] [hPre_quotients_in_range : Cert.Pre_quotients_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quotients_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_quotients_in_range [hKernelIdeal : Cert.KernelIdeal.Facts] [hReferenceIdeal : Cert.ReferenceIdeal.Facts] [hPre_quotients_in_range : Cert.Pre_quotients_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quotients_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_quotients_in_range : Cert.Pre_quotients_in_range.Facts),
    quiescent_Kernel (hKernel := hKernel)
    ∧ quiescent_KernelIdeal (hKernelIdeal := hKernelIdeal)
    ∧ quiescent_KernelIdeal_pre_quotients_in_range (hKernelIdeal := hKernelIdeal) (hPre_quotients_in_range := hPre_quotients_in_range)
    ∧ quiescent_ReferenceIdeal (hReferenceIdeal := hReferenceIdeal)
    ∧ quiescent_ReferenceIdeal_pre_quotients_in_range (hReferenceIdeal := hReferenceIdeal) (hPre_quotients_in_range := hPre_quotients_in_range)
    ∧ preserves_Kernel_KernelIdeal
    ∧ algebraic_KernelIdeal_ReferenceIdeal_pre_quotients_in_range (hKernelIdeal := hKernelIdeal) (hReferenceIdeal := hReferenceIdeal) (hPre_quotients_in_range := hPre_quotients_in_range)
-- ==== Pre_quotients_in_range.lean ====
abbrev S8x1536x5120 : Shape := ⟨3, ![8, 1536, 5120]⟩
abbrev S5120 : Shape := ⟨1, ![5120]⟩
abbrev S3456x5120 : Shape := ⟨2, ![3456, 5120]⟩
abbrev S3456 : Shape := ⟨1, ![3456]⟩
abbrev S1x1x5120 : Shape := ⟨3, ![1, 1, 5120]⟩
abbrev S_ : Shape := ⟨0, ![]⟩

class Facts : Prop where
  bitsLt_bf16_f32 : FTy.bits .bf16 < FTy.bits .f32
  bcast_S5120_S1x1x5120_2 : S5120.BroadcastsInDim S1x1x5120 (![2] : Fin 1 → Fin S1x1x5120.rank)
  bcast_S1x1x5120_S8x1536x5120_0_1_2 : S1x1x5120.BroadcastsInDim S8x1536x5120 (![0, 1, 2] : Fin 3 → Fin S8x1536x5120.rank)
  bcast_S_S8x1536x5120 : S_.BroadcastsInDim S8x1536x5120 (![] : Fin 0 → Fin S8x1536x5120.rank)
  reducesTo_S8x1536x5120_S_d0_1_2 : S8x1536x5120.ReducesTo [0, 1, 2] S_
  h_S_ : 0 < S_.numel

variable [Facts]

def fn {F : FTy → Type} [FloatOps F] (main_arg0 : FVec F S8x1536x5120 .bf16) (main_arg1 : FVec F S5120 .f32) (main_arg2 : FVec F S3456x5120 .fp8e4m3) (main_arg3 : FVec F S3456 .f32) : IVec S_ 1 :=
  let main_v0 : FVec F S8x1536x5120 .f32 := (extf .f32 · bitsLt_bf16_f32) main_arg0
  let main_v1 : FVec F S1x1x5120 .f32 := broadcastInDim S1x1x5120 ![2] bcast_S5120_S1x1x5120_2 main_arg1
  let main_v2 : FVec F S8x1536x5120 .f32 := broadcastInDim S8x1536x5120 ![0, 1, 2] bcast_S1x1x5120_S8x1536x5120_0_1_2 main_v1
  let main_v3 : FVec F S8x1536x5120 .f32 := Host.divf main_v0 main_v2
  let main_v4 : FVec F S8x1536x5120 .f32 := Host.absf main_v3
  let main_cst : FVec F S_ .f32 := constant S_ .f32 0x7F7FFFFF#32
  let main_v5 : FVec F S8x1536x5120 .f32 := broadcastInDim S8x1536x5120 ![] bcast_S_S8x1536x5120 main_cst
  let main_v6 : IVec S8x1536x5120 1 := cmpf .ole main_v4 main_v5
  let main_cst_0 : FVec F S_ .f32 := constant S_ .f32 0x7F800000#32
  let main_v7 : FVec F S8x1536x5120 .f32 := broadcastInDim S8x1536x5120 ![] bcast_S_S8x1536x5120 main_cst_0
  let main_v8 : IVec S8x1536x5120 1 := cmpf .oeq main_v4 main_v7
  let main_v9 : IVec S8x1536x5120 1 := ori main_v6 main_v8
  let main_c : IVec S_ 1 := constantI S_ 1 1#1
  let main_v10 : IVec S_ 1 := (fun x v => Host.reduce IntOp.andi x v reducesTo_S8x1536x5120_S_d0_1_2 h_S_) main_v9 main_c
  main_v10
-- ==== Kernel.lean ====
abbrev S8x1536x5120 : Shape := ⟨3, ![8, 1536, 5120]⟩
abbrev S5120 : Shape := ⟨1, ![5120]⟩
abbrev S3456x5120 : Shape := ⟨2, ![3456, 5120]⟩
abbrev S3456 : Shape := ⟨1, ![3456]⟩
abbrev S12288x5120 : Shape := ⟨2, ![12288, 5120]⟩
abbrev S1x5120 : Shape := ⟨2, ![1, 5120]⟩
abbrev S1x3456 : Shape := ⟨2, ![1, 3456]⟩
abbrev S12288x3456 : Shape := ⟨2, ![12288, 3456]⟩
abbrev S12288x1 : Shape := ⟨2, ![12288, 1]⟩
abbrev S512x5120 : Shape := ⟨2, ![512, 5120]⟩
abbrev S512x3456 : Shape := ⟨2, ![512, 3456]⟩
abbrev S512x1 : Shape := ⟨2, ![512, 1]⟩
abbrev S32x5120 : Shape := ⟨2, ![32, 5120]⟩
abbrev S32 : Shape := ⟨1, ![32]⟩
abbrev S32x1 : Shape := ⟨2, ![32, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x1536x5120, .bf16⟩
  | .hbm, ⟨1, _⟩ => ⟨S5120, .f32⟩
  | .hbm, ⟨2, _⟩ => ⟨S3456x5120, .fp8e4m3⟩
  | .hbm, ⟨3, _⟩ => ⟨S3456, .f32⟩
  | .hbm, ⟨4, _⟩ => ⟨S12288x5120, .bf16⟩
  | .hbm, ⟨5, _⟩ => ⟨S1x5120, .f32⟩
  | .hbm, ⟨6, _⟩ => ⟨S1x3456, .f32⟩
  | .hbm, ⟨7, _⟩ => ⟨S12288x3456, .bf16⟩
  | .hbm, ⟨8, _⟩ => ⟨S12288x5120, .fp8e4m3⟩
  | .hbm, ⟨9, _⟩ => ⟨S12288x1, .f32⟩
  | .local _ .vmem, ⟨0, _⟩ => ⟨S512x5120, .bf16⟩
  | .local _ .vmem, ⟨1, _⟩ => ⟨S512x5120, .bf16⟩
  | .local _ .vmem, ⟨2, _⟩ => ⟨S1x5120, .f32⟩
  | .local _ .vmem, ⟨3, _⟩ => ⟨S3456x5120, .fp8e4m3⟩
  | .local _ .vmem, ⟨4, _⟩ => ⟨S1x3456, .f32⟩
  | .local _ .vmem, ⟨5, _⟩ => ⟨S512x3456, .bf16⟩
  | .local _ .vmem, ⟨6, _⟩ => ⟨S512x3456, .bf16⟩
  | .local _ .vmem, ⟨7, _⟩ => ⟨S512x5120, .fp8e4m3⟩
  | .local _ .vmem, ⟨8, _⟩ => ⟨S512x5120, .fp8e4m3⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S8x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v15 : BitVec 32 := Scalar.muli arg9 c32_i32
  v15
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v15 : BitVec 32 := Scalar.muli arg9 c32_i32
  let v16 : BitVec 32 := v15
  let v17 : Index := Scalar.indexCast v16
  let c0_12 : Index := 0#32
  ![v17.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v15 : BitVec 32 := Scalar.muli arg9 c32_i32
  let v16 : BitVec 32 := v15
  let v106 : Index := Scalar.indexCast v16
  let c0_28 : Index := 0#32
  ![v106.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3456x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3456 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x1536x5120 : Shape := ⟨3, ![8, 1536, 5120]⟩
abbrev S5120 : Shape := ⟨1, ![5120]⟩
abbrev S3456x5120 : Shape := ⟨2, ![3456, 5120]⟩
abbrev S3456 : Shape := ⟨1, ![3456]⟩
abbrev S12288x5120 : Shape := ⟨2, ![12288, 5120]⟩
abbrev S1x5120 : Shape := ⟨2, ![1, 5120]⟩
abbrev S1x3456 : Shape := ⟨2, ![1, 3456]⟩
abbrev S12288x3456 : Shape := ⟨2, ![12288, 3456]⟩
abbrev S12288x1 : Shape := ⟨2, ![12288, 1]⟩
abbrev S12288 : Shape := ⟨1, ![12288]⟩

abbrev nBuf : Space → Nat
  | .hbm => 10
  | .vmem => 7
  | .smem => 0
  | _ => 0

abbrev bufTy : (tb : Table) → Fin (tcTables nBuf tb) → BufTy
  | .hbm, ⟨0, _⟩ => ⟨S8x1536x5120, .bf16⟩
  | .hbm, ⟨1, _⟩ => ⟨S5120, .f32⟩
  | .hbm, ⟨2, _⟩ => ⟨S3456x5120, .fp8e4m3⟩
  | .hbm, ⟨3, _⟩ => ⟨S3456, .f32⟩
  | .hbm, ⟨4, _⟩ => ⟨S12288x5120, .bf16⟩
  | .hbm, ⟨5, _⟩ => ⟨S1x5120, .f32⟩
  | .hbm, ⟨6, _⟩ => ⟨S1x3456, .f32⟩
  | .hbm, ⟨7, _⟩ => ⟨S12288x3456, .bf16⟩
  | .hbm, ⟨8, _⟩ => ⟨S12288x5120, .fp8e4m3⟩
  | .hbm, ⟨9, _⟩ => ⟨S12288x1, .f32⟩
  | .local _ .vmem, ⟨0, _⟩ => ⟨S12288x5120, .bf16⟩
  | .local _ .vmem, ⟨1, _⟩ => ⟨S1x5120, .f32⟩
  | .local _ .vmem, ⟨2, _⟩ => ⟨S3456x5120, .fp8e4m3⟩
  | .local _ .vmem, ⟨3, _⟩ => ⟨S1x3456, .f32⟩
  | .local _ .vmem, ⟨4, _⟩ => ⟨S12288x3456, .bf16⟩
  | .local _ .vmem, ⟨5, _⟩ => ⟨S12288x5120, .fp8e4m3⟩
  | .local _ .vmem, ⟨6, _⟩ => ⟨S12288x1, .f32⟩
  | _, _ => ⟨S8x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3456x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scalar.lean ====
/- The scale of one token, as a number: what the kernel computes from the bits of a float by a search over exponents, and
   what the reference computes by a logarithm. Both are shown equal wherever the argument is below `2 ^ 126` or infinite.
   Nothing here names a program. -/
module

public import Idealize.ShloMosaic.Lib.Pointwise
public import Mathlib.Analysis.SpecialFunctions.Pow.Real

@[expose] public section

noncomputable section

namespace Cert.Proof

open Idealize.ShloMosaic

/-! ## The two computations -/

/-- One step of the search: the bit `b` is added to the word `w` if the longer word passes the test. -/
def keep (P : BitVec 32 → BitVec 1) (w b : BitVec 32) : BitVec 32 :=
  Scalar.select (P (IntOp.ori w b)) (IntOp.ori w b) w

/-- The first six steps of the search, over bits 30 to 25. -/
def search6 (P : BitVec 32 → BitVec 1) : BitVec 32 :=
  keep P (keep P (keep P (keep P (keep P (keep P 0#32 1073741824#32) 536870912#32) 268435456#32) 134217728#32)
    67108864#32) 33554432#32

/-- The last two steps of the search, over bits 24 and 23. -/
def search2 (P : BitVec 32 → BitVec 1) (w : BitVec 32) : BitVec 32 := keep P (keep P w 16777216#32) 8388608#32

/-- The search over the eight exponent bits. -/
def search (P : BitVec 32 → BitVec 1) : BitVec 32 := search2 P (search6 P)

/-- The test of the search: the float of the word is at most `t`. -/
def atMost (t : EReal) (w : BitVec 32) : BitVec 1 := Ideal.cmp .oge t (Ideal.ofBits .f32 w)

/-- The exponent of the scale, as the kernel takes it from the word that the search found. -/
def expo (a : EReal) (w : BitVec 32) : BitVec 32 :=
  Scalar.select (IntOp.ori (IntOp.ori (IntOp.cmpi .eq (IntOp.andi (IntOp.shrsi .vector w 23#32) 255#32) 0#32)
      (IntOp.cmpi .eq (IntOp.andi (IntOp.shrsi .vector w 23#32) 255#32) 255#32))
      (Ideal.cmp .oeq a (Ideal.ofBits .f32 0x00000000#32)))
    0#32 (IntOp.subi (IntOp.andi (IntOp.shrsi .vector w 23#32) 255#32) 126#32)

/-- The kernel's scale, of the row's greatest size `a` and the scaled size `t`. -/
def kScale (a t : EReal) : EReal :=
  Ideal.ofBits .f32 (IntOp.shli .vector (IntOp.addi 127#32 (expo a (search (atMost t)))) 23#32)

/-- The kernel's inverse scale. -/
def kInv (a t : EReal) : EReal :=
  Ideal.ofBits .f32 (IntOp.shli .vector (IntOp.subi 127#32 (expo a (search (atMost t)))) 23#32)

/-- The reference's exponent of the scale. -/
def rExp (t : EReal) : EReal :=
  Scalar.select (IntOp.ori (Ideal.cmp .olt t (Ideal.ofBits .f32 0x00800000#32))
      (Ideal.cmp .oeq t (Ideal.ofBits .f32 0x7F800000#32)))
    (Ideal.ofBits .f32 0x00000000#32)
    (Ideal.liftRound Int.floor (Ideal.div (Ideal.log t) (Ideal.log (Ideal.ofBits .f32 0x40000000#32)))
      + Ideal.ofBits .f32 0x3F800000#32)

/-- The reference's scale. -/
def rScale (t : EReal) : EReal := Ideal.exp2 (rExp t)

/-- The reference's inverse scale. -/
def rInv (t : EReal) : EReal := Ideal.exp2 (Ideal.ofBits .f32 0x00000000#32 - rExp t)

/-! ## Exponent words -/

/-- The word whose exponent field is `k` and whose other bits are zero. -/
def word (k : ℕ) : BitVec 32 := BitVec.ofNat 32 (k <<< 23)

theorem word_fields : ∀ k : Fin 256, ((word k).extractLsb' 31 1 == 1#1) = false
    ∧ ((word k).extractLsb' 23 8).toNat = k.val ∧ ((word k).extractLsb' 0 23).toNat = 0 := by
  decide +kernel

/-- The float of an exponent word between the extremes is the power of two. -/
theorem ofBits_word (k : ℕ) (h0 : 1 ≤ k) (h1 : k ≤ 254) :
    Ideal.ofBits .f32 (word k) = (((2 : ℝ) ^ ((k : ℤ) - 127) : ℝ) : EReal) := by
  obtain ⟨hs, he, hf⟩ := word_fields ⟨k, by omega⟩
  simp only at hs he hf
  show Ideal.ieee 8 23 (word k) = _
  generalize word k = w at hs he hf ⊢
  unfold Ideal.ieee
  simp only [hs, he, hf]
  rw [if_neg (show ¬ k = 2 ^ 8 - 1 by omega), if_neg (show ¬ k = 0 by omega)]
  congr 1
  simp only [Bool.false_eq_true, if_false, one_mul]
  rw [ Nat.add_zero, Nat.cast_pow, Nat.cast_ofNat, ← zpow_natCast, ← zpow_add₀ (by norm_num)]
  congr 1
  push_cast
  ring

/-- The float of the greatest exponent word is infinite. -/
theorem ofBits_word_top : Ideal.ofBits .f32 (word 255) = ⊤ := by
  simp [word, Ideal.ofBits, Ideal.ieee]

/-- The word that is tested is an exponent word, and not zero. -/
theorem ori_word (k : Fin 256) (i : Fin 8) :
    ∃ j : Fin 256, j ≠ 0 ∧ IntOp.ori (word k) (word (2 ^ i.val)) = word j := by
  have h : ∀ (k : Fin 256) (i : Fin 8), k.val ||| 2 ^ i.val < 256 ∧ k.val ||| 2 ^ i.val ≠ 0
      ∧ IntOp.ori (word k) (word (2 ^ i.val)) = word (k.val ||| 2 ^ i.val) := by
    decide +kernel
  obtain ⟨h1, h2, h3⟩ := h k i
  exact ⟨⟨_, h1⟩, fun e => h2 (congrArg Fin.val e), h3⟩

/-- One step depends on the test at exponent words alone, and gives an exponent word. -/
theorem keep_congr {P Q : BitVec 32 → BitVec 1} (h : ∀ k : Fin 256, k ≠ 0 → P (word k) = Q (word k)) (w : BitVec 32)
    (hw : ∃ k : Fin 256, w = word k) (i : Fin 8) :
    keep P w (word (2 ^ i.val)) = keep Q w (word (2 ^ i.val)) ∧ ∃ k : Fin 256, keep P w (word (2 ^ i.val)) = word k := by
  obtain ⟨k, rfl⟩ := hw
  obtain ⟨j, hj, e⟩ := ori_word k i
  unfold keep
  rw [e, h j hj]
  refine ⟨rfl, ?_⟩
  unfold Scalar.select
  split
  · exact ⟨j, rfl⟩
  · exact ⟨k, rfl⟩

theorem bit_words : 0#32 = word (0 : Fin 256).val ∧ 1073741824#32 = word (2 ^ (7 : Fin 8).val)
    ∧ 536870912#32 = word (2 ^ (6 : Fin 8).val) ∧ 268435456#32 = word (2 ^ (5 : Fin 8).val)
    ∧ 134217728#32 = word (2 ^ (4 : Fin 8).val) ∧ 67108864#32 = word (2 ^ (3 : Fin 8).val)
    ∧ 33554432#32 = word (2 ^ (2 : Fin 8).val) ∧ 16777216#32 = word (2 ^ (1 : Fin 8).val)
    ∧ 8388608#32 = word (2 ^ (0 : Fin 8).val) := by
  decide +kernel

/-- The search depends on the test at exponent words alone. -/
theorem search_congr {P Q : BitVec 32 → BitVec 1} (h : ∀ k : Fin 256, k ≠ 0 → P (word k) = Q (word k)) :
    search P = search Q := by
  obtain ⟨w, w7, w6, w5, w4, w3, w2, w1, w0⟩ := bit_words
  unfold search search2 search6
  rw [w, w7, w6, w5, w4, w3, w2, w1, w0]
  have k7 := keep_congr h _ ⟨0, rfl⟩ 7
  have k6 := keep_congr h _ k7.2 6
  have k5 := keep_congr h _ k6.2 5
  have k4 := keep_congr h _ k5.2 4
  have k3 := keep_congr h _ k4.2 3
  have k2 := keep_congr h _ k3.2 2
  have k1 := keep_congr h _ k2.2 1
  have k0 := keep_congr h _ k1.2 0
  rw [k0.1, k1.1, k2.1, k3.1, k4.1, k5.1, k6.1, k7.1]

/-- The search finds the greatest exponent word that passes the test. -/
theorem search_le : ∀ n : Fin 256, search (fun w => BitVec.ofBool (decide (w.toNat ≤ n.val <<< 23))) = word n := by
  decide +kernel

theorem word_le (k n : Fin 256) : decide ((word k).toNat ≤ n.val <<< 23) = decide (k.val ≤ n.val) := by
  have h : ∀ k : Fin 256, (word k).toNat = k.val * 8388608 := by decide +kernel
  rw [decide_eq_decide, h k, Nat.shiftLeft_eq]
  omega

theorem words : 0x00800000#32 = word 1 ∧ 0x7F800000#32 = word 255 ∧ 0x40000000#32 = word 128 := by
  decide +kernel

attribute [local irreducible] word

/-- If the floats of the exponent words up to `n`, and of no others, are at most `t`, the search finds the word of `n`. -/
theorem search_atMost (t : EReal) (n : Fin 256)
    (h : ∀ k : Fin 256, k ≠ 0 → (Ideal.ofBits .f32 (word k) ≤ t ↔ k.val ≤ n.val)) : search (atMost t) = word n := by
  rw [← search_le n]
  refine search_congr fun k hk => ?_
  rw [word_le k n]
  show BitVec.ofBool (decide (Ideal.ofBits .f32 (word k) ≤ t)) = _
  rw [decide_eq_decide.mpr (h k hk)]

/-! ## The search finds the logarithm -/

/-- The integer part of the logarithm to the base two. -/
def lg (r : ℝ) : ℤ := ⌊Real.log r / Real.log 2⌋

theorem zpow_le_iff (r : ℝ) (hr : 0 < r) (z : ℤ) : (2 : ℝ) ^ z ≤ r ↔ z ≤ lg r := by
  rw [lg, Int.le_floor, le_div_iff₀ (Real.log_pos (by norm_num))]
  exact Real.zpow_le_iff_le_log (by norm_num) hr

/-- Below the least normal number nothing is found. -/
theorem search_small (t : EReal) (h : t < Ideal.ofBits .f32 (word 1)) : search (atMost t) = word 0 := by
  refine search_atMost t 0 fun k hk => ⟨fun hkt => ?_, fun h0 => absurd (Fin.ext (Nat.le_zero.mp h0)) hk⟩
  exfalso
  refine absurd (lt_of_le_of_lt hkt h) (not_lt.mpr ?_)
  have hk1 : 1 ≤ k.val := Nat.one_le_iff_ne_zero.mpr fun h => hk (Fin.ext h)
  rcases Nat.lt_or_ge k.val 255 with hlt | hge
  · rw [ofBits_word 1 le_rfl (by omega), ofBits_word k.val hk1 (by omega)]
    exact EReal.coe_le_coe_iff.mpr (zpow_le_zpow_right₀ (by norm_num) (by omega))
  · rw [show k.val = 255 from by omega, ofBits_word_top]
    exact le_top

/-- At infinity the greatest exponent is found. -/
theorem search_top : search (atMost ⊤) = word 255 :=
  search_atMost ⊤ 255 fun k _ => ⟨fun _ => by have := k.isLt; show k.val ≤ 255; omega, fun _ => le_top⟩

/-- Between them the exponent found is the biased integer part of the logarithm. -/
theorem search_real (r : ℝ) (n : Fin 256) (hr : 0 < r) (h1 : n.val < 255) (hn : (n.val : ℤ) = lg r + 127) :
    search (atMost (r : EReal)) = word n := by
  refine search_atMost _ n fun k hk => ?_
  have hk1 : 1 ≤ k.val := Nat.one_le_iff_ne_zero.mpr fun h => hk (Fin.ext h)
  rcases Nat.lt_or_ge k.val 255 with hlt | hge
  · rw [ofBits_word k.val hk1 (by omega), EReal.coe_le_coe_iff]
    rw [zpow_le_iff r hr]
    omega
  · rw [show k.val = 255 from by omega, ofBits_word_top]
    constructor
    · intro h
      exact absurd (top_le_iff.mp h) (EReal.coe_ne_top r)
    · intro h
      omega

/-! ## The two scales agree -/

theorem expo_low (a : EReal) : expo a (word 0) = 0#32 := by
  unfold expo
  generalize Ideal.cmp .oeq a _ = b
  revert b
  decide +kernel

theorem expo_high (a : EReal) : expo a (word 255) = 0#32 := by
  unfold expo
  generalize Ideal.cmp .oeq a _ = b
  revert b
  decide +kernel

theorem expo_mid (a : EReal) (ha : a ≠ 0) (n : Fin 256) (h0 : 1 ≤ n.val) (h1 : n.val ≤ 254) :
    expo a (word n) = BitVec.ofInt 32 ((n.val : ℤ) - 126) := by
  unfold expo
  have hb : Ideal.cmp .oeq a (Ideal.ofBits .f32 0x00000000#32) = 0#1 := by
    rw [Ideal.ofBits_zero_f32]
    show BitVec.ofBool (decide (a = 0)) = 0#1
    rw [decide_eq_false ha]
    rfl
  rw [hb]
  revert h0 h1 n
  decide +kernel

theorem scale_word : ∀ n : Fin 256, 1 ≤ n.val → n.val ≤ 252 →
    IntOp.shli .vector (IntOp.addi 127#32 (BitVec.ofInt 32 ((n.val : ℤ) - 126))) 23#32 = word (n.val + 1)
      ∧ IntOp.shli .vector (IntOp.subi 127#32 (BitVec.ofInt 32 ((n.val : ℤ) - 126))) 23#32 = word (253 - n.val) := by
  decide +kernel

theorem one_word : IntOp.shli .vector (IntOp.addi 127#32 0#32) 23#32 = word 127
    ∧ IntOp.shli .vector (IntOp.subi 127#32 0#32) 23#32 = word 127 := by
  decide +kernel

theorem ofBits_127 : Ideal.ofBits .f32 (word 127) = 1 := by
  rw [ofBits_word 127 (by omega) (by omega)]
  norm_num

theorem exp2_zero : Ideal.exp2 0 = 1 := by
  show ((Real.rpow 2 0 : ℝ) : EReal) = 1
  rw [Real.rpow_eq_pow, Real.rpow_zero]
  rfl

/-- Where the exponent is zero both scales and both inverses are one. -/
theorem scales_one (a t : EReal) (hk : expo a (search (atMost t)) = 0#32) (hr : rExp t = 0) :
    kScale a t = rScale t ∧ kInv a t = rInv t := by
  unfold kScale kInv rScale rInv
  rw [hk, hr, one_word.1, one_word.2, ofBits_127, Ideal.ofBits_zero_f32, sub_zero, exp2_zero]
  exact ⟨rfl, rfl⟩

theorem ofBits_least : Ideal.ofBits .f32 0x00800000#32 = Ideal.ofBits .f32 (word 1) := by
  rw [words.1]

theorem ofBits_inf : Ideal.ofBits .f32 0x7F800000#32 = ⊤ := by
  rw [words.2.1, ofBits_word_top]

theorem ofBits_two : Ideal.ofBits .f32 0x40000000#32 = ((2 : ℝ) : EReal) := by
  rw [words.2.2, ofBits_word 128 (by omega) (by omega)]
  norm_num

theorem rExp_small (t : EReal) (h : t < Ideal.ofBits .f32 (word 1)) : rExp t = 0 := by
  unfold rExp
  rw [ofBits_least, Ideal.ofBits_zero_f32]
  have hc : Ideal.cmp .olt t (Ideal.ofBits .f32 (word 1)) = 1#1 := by
    show BitVec.ofBool (decide (t < Ideal.ofBits .f32 (word 1))) = 1#1
    rw [decide_eq_true h]
    rfl
  rw [hc]
  generalize Ideal.cmp .oeq t _ = b
  have hb : IntOp.ori 1#1 b = 1 := by revert b; decide
  unfold Scalar.select
  rw [if_pos hb]

theorem rExp_top : rExp ⊤ = 0 := by
  unfold rExp
  rw [ofBits_inf, Ideal.ofBits_zero_f32]
  have hc : Ideal.cmp .oeq ⊤ ⊤ = 1#1 := by
    show BitVec.ofBool (decide ((⊤ : EReal) = ⊤)) = 1#1
    rw [decide_eq_true rfl]
    rfl
  rw [hc]
  generalize Ideal.cmp .olt ⊤ _ = b
  have hb : IntOp.ori b 1#1 = 1 := by revert b; decide
  unfold Scalar.select
  rw [if_pos hb]

/-- At a real number from the least normal number on, the reference's exponent is the integer part of the logarithm,
    plus one. -/
theorem rExp_real (r : ℝ) (h : Ideal.ofBits .f32 (word 1) ≤ (r : EReal)) (hr : 0 < r) :
    rExp (r : EReal) = (((lg r + 1 : ℤ) : ℝ) : EReal) := by
  unfold rExp
  rw [ofBits_least, ofBits_inf, ofBits_two, Ideal.ofBits_one_f32]
  have hc : Ideal.cmp .olt (r : EReal) (Ideal.ofBits .f32 (word 1)) = 0#1 := by
    show BitVec.ofBool (decide ((r : EReal) < Ideal.ofBits .f32 (word 1))) = 0#1
    rw [decide_eq_false (not_lt.mpr h)]
    rfl
  have hd : Ideal.cmp .oeq (r : EReal) ⊤ = 0#1 := by
    show BitVec.ofBool (decide ((r : EReal) = ⊤)) = 0#1
    rw [decide_eq_false (EReal.coe_ne_top r)]
    rfl
  rw [hc, hd]
  unfold Scalar.select
  rw [if_neg (by decide)]
  have hl : Ideal.log (r : EReal) = ((Real.log r : ℝ) : EReal) := by
    show (if r ≤ 0 then ⊥ else ((Real.log r : ℝ) : EReal)) = _
    rw [if_neg (not_le.mpr hr)]
  have hl2 : Ideal.log ((2 : ℝ) : EReal) = ((Real.log 2 : ℝ) : EReal) := by
    show (if (2 : ℝ) ≤ 0 then ⊥ else ((Real.log 2 : ℝ) : EReal)) = _
    rw [if_neg (by norm_num)]
  have hne : ((Real.log 2 : ℝ) : EReal) ≠ 0 := by
    have : Real.log 2 ≠ 0 := (Real.log_pos (by norm_num)).ne'
    exact_mod_cast this
  rw [hl, hl2]
  unfold Ideal.div
  rw [if_neg hne, ← EReal.coe_inv, ← EReal.coe_mul, ← div_eq_mul_inv]
  show (((lg r : ℤ) : ℝ) : EReal) + 1 = _
  push_cast
  rfl

theorem exp2_int (z : ℤ) : Ideal.exp2 (((z : ℤ) : ℝ) : EReal) = (((2 : ℝ) ^ z : ℝ) : EReal) := by
  show ((Real.rpow 2 (z : ℝ) : ℝ) : EReal) = _
  rw [Real.rpow_eq_pow, Real.rpow_intCast]

/-- THE TWO SCALES AGREE, and so do their inverses, if the scaled size is below `2 ^ 126` or infinite, and if a row of
    zeros has scaled size zero. -/
theorem scales_eq (a t : EReal) (h0 : a = 0 → t ≤ 0) (ht : t < (((2 : ℝ) ^ (126 : ℤ) : ℝ) : EReal) ∨ t = ⊤) :
    kScale a t = rScale t ∧ kInv a t = rInv t := by
  rcases lt_or_ge t (Ideal.ofBits .f32 (word 1)) with hs | hs
  · exact scales_one a t (by rw [search_small t hs, expo_low]) (rExp_small t hs)
  rcases ht with ht | rfl
  swap
  · exact scales_one a ⊤ (by rw [search_top, expo_high]) rExp_top
  have hpos : (0 : EReal) < Ideal.ofBits .f32 (word 1) := by
    rw [ofBits_word 1 le_rfl (by omega)]
    exact EReal.coe_pos.mpr (by positivity)
  have ha : a ≠ 0 := fun h => absurd (lt_of_lt_of_le hpos (hs.trans (h0 h))) (lt_irrefl _)
  induction t with
  | bot => exact absurd hs (not_le.mpr (lt_trans (EReal.bot_lt_coe 0) hpos))
  | top => exact absurd ht not_top_lt
  | coe r =>
    have hr : 0 < r := EReal.coe_pos.mp (lt_of_lt_of_le hpos hs)
    have hlo : -126 ≤ lg r := by
      have hs' := hs
      rw [ofBits_word 1 le_rfl (by omega), EReal.coe_le_coe_iff] at hs'
      exact (zpow_le_iff r hr _).mp (by convert hs' using 2; norm_num)
    have hhi : lg r < 126 := by
      by_contra hc
      exact absurd ((zpow_le_iff r hr _).mpr (not_lt.mp hc)) (not_le.mpr (EReal.coe_lt_coe_iff.mp ht))
    obtain ⟨n, hn⟩ : ∃ n : Fin 256, (n.val : ℤ) = lg r + 127 :=
      ⟨⟨(lg r + 127).toNat, by omega⟩, by show (((lg r + 127).toNat : ℕ) : ℤ) = _; omega⟩
    have hn1 : 1 ≤ n.val := by omega
    have hn2 : n.val ≤ 252 := by omega
    unfold kScale kInv rScale rInv
    rw [search_real r n hr (by omega) hn, expo_mid a ha n hn1 (by omega), (scale_word n hn1 hn2).1,
      (scale_word n hn1 hn2).2, ofBits_word _ (by omega) (by omega), ofBits_word _ (by omega) (by omega),
      rExp_real r hs hr, Ideal.ofBits_zero_f32, zero_sub, exp2_int]
    have hneg : -(((lg r + 1 : ℤ) : ℝ) : EReal) = (((-(lg r + 1) : ℤ) : ℝ) : EReal) := by
      rw [Int.cast_neg, EReal.coe_neg]
    rw [hneg, exp2_int]
    have e1 : ((n.val + 1 : ℕ) : ℤ) - 127 = lg r + 1 := by push_cast; omega
    have e2 : ((253 - n.val : ℕ) : ℤ) - 127 = -(lg r + 1) := by omega
    rw [e1, e2]
    exact ⟨rfl, rfl⟩

end Cert.Proof

end
-- ==== Proof.Spec.lean ====
/- The three results as functions of the arrays, index by index. They are stated over a rule for the scale of a row and a rule
   for its inverse, because the two programs differ in these two rules alone. Nothing here names a program. -/
module

public import proofs.«01_k».proof.Proof.Scalar

@[expose] public section

noncomputable section

namespace Cert.Proof

open Idealize.ShloMosaic

/-- The shape of a matrix. -/
abbrev Sh (a b : ℕ) : Shape := ⟨2, ![a, b]⟩

/-- A row of activations. -/
abbrev Row := Fin 5120 → EReal

/-- Row `r` of the activations, each entry divided by its column's smoothing factor. -/
def quot {n : ℕ} (x : (Sh n 5120).Idx → EReal) (s : (Sh 1 5120).Idx → EReal) (r : Fin n) : Row :=
  fun k => Ideal.div (x (ix2 r k)) (s (ix2 0 k))

/-- The greatest size in a row. -/
def amax (q : Row) : EReal := Finset.univ.fold max (Ideal.ofBits .f32 0xFF800000#32) fun k => FloatOps.absf (F := Ideal) (φ := .f32) (q k)

/-- The greatest size over 448, as the product with the rounded reciprocal. -/
def sized (q : Row) : EReal := amax q * Ideal.ofBits .f32 0x3B124925#32

/-- One code: the entry times the inverse scale, cut off at 448 in size. -/
def code (i a : EReal) : EReal := min (Ideal.ofBits .f32 0x43E00000#32) (max (Ideal.ofBits .f32 0xC3E00000#32) (a * i))

/-- The codes, for the rule `inv` of the inverse scale. -/
def codes (inv : Row → EReal) {n : ℕ} (x : (Sh n 5120).Idx → EReal) (s : (Sh 1 5120).Idx → EReal) :
    (Sh n 5120).Idx → EReal :=
  fun j => code (inv (quot x s (j 0))) (quot x s (j 0) (j 1))

/-- The scales, for the rule `sc` of the scale. -/
def scales (sc : Row → EReal) {n : ℕ} (x : (Sh n 5120).Idx → EReal) (s : (Sh 1 5120).Idx → EReal) :
    (Sh n 1).Idx → EReal :=
  fun j => sc (quot x s (j 0))

theorem codes_at (inv : Row → EReal) {n : ℕ} (x : (Sh n 5120).Idx → EReal) (s : (Sh 1 5120).Idx → EReal) (r : Fin n)
    (k : Fin 5120) : codes inv x s (ix2 r k) = code (inv (quot x s r)) (quot x s r k) := rfl

theorem scales_at (sc : Row → EReal) {n : ℕ} (x : (Sh n 5120).Idx → EReal) (s : (Sh 1 5120).Idx → EReal) (r : Fin n)
    (z : Fin 1) : scales sc x s (ix2 r z) = sc (quot x s r) := rfl

/-- The product of the codes with the weights' codes, times both scales. -/
def outs {n : ℕ} (cd : (Sh n 5120).Idx → EReal) (sc : (Sh n 1).Idx → EReal) (w : (Sh 3456 5120).Idx → EReal)
    (ws : (Sh 1 3456).Idx → EReal) : (Sh n 3456).Idx → EReal :=
  fun j => (∑ k : Fin 5120, cd (ix2 (j 0) k) * w (ix2 (j 1) k)) * sc (ix2 (j 0) 0) * ws (ix2 0 (j 1))

/-- The kernel's rules. -/
def kS (q : Row) : EReal := kScale (amax q) (sized q)
def kI (q : Row) : EReal := kInv (amax q) (sized q)

/-- The reference's rules. -/
def rS (q : Row) : EReal := rScale (sized q)
def rI (q : Row) : EReal := rInv (sized q)

theorem rS_eq (q : Row) : rS q = Ideal.exp2 (rExp (sized q)) := rfl
theorem rI_eq (q : Row) : rI q = Ideal.exp2 (Ideal.ofBits .f32 0x00000000#32 - rExp (sized q)) := rfl

end Cert.Proof

end
-- ==== Proof.Range.lean ====
/- The precondition, and the equality of the two programs' rules on every row that meets it. -/
module

public import proofs.«01_k».proof.Proof.Spec
public import proofs.«01_k».proof.Proof.Gen.Pre_quotients_in_range
public import Idealize.ShloMosaic.Lib.ReduceAll

@[expose] public section

set_option maxRecDepth 16384

noncomputable section

namespace Cert.Proof

open Idealize.ShloMosaic

/-- The greatest finite float. -/
abbrev fmax : EReal := Ideal.ofBits .f32 0x7F7FFFFF#32

/-- The size of a number. -/
def size (a : EReal) : EReal := FloatOps.absf (F := Ideal) (φ := .f32) a

/-- A number whose size is a finite float's or infinite. -/
def InRange (a : EReal) : Prop := size a ≤ fmax ∨ size a = ⊤

/-- A row with every entry in range has a greatest size at most the greatest finite float, or infinite. -/
theorem fold_range (f : Fin 5120 → EReal) (b : EReal) (hb : b ≤ fmax) (h : ∀ k, f k ≤ fmax ∨ f k = ⊤) :
    Finset.univ.fold max b f ≤ fmax ∨ Finset.univ.fold max b f = ⊤ := by
  by_cases hk : ∃ k, f k = ⊤
  · obtain ⟨k, hk⟩ := hk
    exact Or.inr (top_le_iff.mp ((Finset.le_fold_max _).mpr (Or.inr ⟨k, Finset.mem_univ k, hk.ge⟩)))
  · exact Or.inl ((Finset.fold_max_le _).mpr ⟨hb, fun k _ => (h k).resolve_right fun e => hk ⟨k, e⟩⟩)

theorem bottom : Ideal.ofBits .f32 0xFF800000#32 = ⊥ := by
  simp [Ideal.ofBits, Ideal.ieee]

theorem fmax_eq : fmax = (((16777215 : ℝ) * 2 ^ (104 : ℤ) : ℝ) : EReal) := by
  simp [fmax, Ideal.ofBits, Ideal.ieee]

theorem recip_eq : Ideal.ofBits .f32 0x3B124925#32 = (((9586981 : ℝ) * 2 ^ (-32 : ℤ) : ℝ) : EReal) := by
  simp [Ideal.ofBits, Ideal.ieee]

theorem amax_range (q : Row) (h : ∀ k, InRange (q k)) : amax q ≤ fmax ∨ amax q = ⊤ := by
  unfold amax
  exact fold_range _ _ (by rw [bottom]; exact bot_le) h

/-- On a row in range the kernel's scale and inverse scale are the reference's. -/
theorem rules_eq (q : Row) (h : ∀ k, InRange (q k)) : kS q = rS q ∧ kI q = rI q := by
  have hr := amax_range q h
  have key : ∀ a : EReal, a ≤ fmax ∨ a = ⊤ →
      kScale a (a * Ideal.ofBits .f32 0x3B124925#32) = rScale (a * Ideal.ofBits .f32 0x3B124925#32)
        ∧ kInv a (a * Ideal.ofBits .f32 0x3B124925#32) = rInv (a * Ideal.ofBits .f32 0x3B124925#32) := by
    intro a ha
    have hc : (0 : ℝ) < (9586981 : ℝ) * 2 ^ (-32 : ℤ) := by positivity
    refine scales_eq a _ (fun h0 => by rw [h0, zero_mul]) ?_
    rw [recip_eq]
    rcases ha with ha | ha
    · left
      refine lt_of_le_of_lt (mul_le_mul_of_nonneg_right ha (EReal.coe_nonneg.mpr hc.le)) ?_
      rw [fmax_eq, ← EReal.coe_mul, EReal.coe_lt_coe_iff]
      norm_num
    · right
      rw [ha, EReal.top_mul_coe_of_pos hc]
  unfold kS kI rS rI sized
  exact key (amax q) hr

/-- The test that the precondition makes of each quotient. -/
theorem inRange_of_test (a : EReal) (h : IntOp.ori (Ideal.cmp .ole (size a) fmax)
    (Ideal.cmp .oeq (size a) (Ideal.ofBits .f32 0x7F800000#32)) = 1#1) : InRange a := by
  by_contra hn
  obtain ⟨h1, h2⟩ := not_or.mp hn
  have e1 : Ideal.cmp .ole (size a) fmax = 0#1 := by
    show BitVec.ofBool (decide (size a ≤ fmax)) = 0#1
    rw [decide_eq_false h1]; rfl
  have e2 : Ideal.cmp .oeq (size a) (Ideal.ofBits .f32 0x7F800000#32) = 0#1 := by
    rw [ofBits_inf]
    show BitVec.ofBool (decide (size a = ⊤)) = 0#1
    rw [decide_eq_false h2]; rfl
  rw [e1, e2] at h
  exact absurd h (by decide)

/-! ## The precondition read at an index -/

section

variable (x : FVec Ideal Cert.Pre_quotients_in_range.S8x1536x5120 .bf16) (s : FVec Ideal Cert.Pre_quotients_in_range.S5120 .f32)
  (w : FVec Ideal Cert.Pre_quotients_in_range.S3456x5120 .fp8e4m3) (g : FVec Ideal Cert.Pre_quotients_in_range.S3456 .f32)

open Cert.Pre_quotients_in_range in
/-- Where the precondition holds, every quotient is in range. -/
theorem quotient_range [Cert.Pre_quotients_in_range.Facts] (h : fn (F := Ideal) x s w g = fun _ => 1#1)
    (b : Fin 8) (r : Fin 1536) (k : Fin 5120) : InRange (Ideal.div (x (ix3 b r k)) (s (ix1 k))) := by
  have h0 := congrFun h (Shape.Idx.first Facts.h_S_)
  dsimp only [fn] at h0
  haveI : Subsingleton S_.Idx := ⟨fun a b => funext fun d => d.elim0⟩
  have h1 := Host.reduce_andi_all _ _ _ _ _ h0 (ix3 b r k)
  have h2 : IntOp.ori (Ideal.cmp .ole (size (Ideal.div (x (ix3 b r k)) (s (ix1 k)))) fmax)
      (Ideal.cmp .oeq (size (Ideal.div (x (ix3 b r k)) (s (ix1 k)))) (Ideal.ofBits .f32 0x7F800000#32)) = 1#1 := by
    rw [← h1]
    pointwise [size, fmax]
  exact (inRange_of_test _ h2)

end

end Cert.Proof

end
-- ==== Proof.KernelPure.lean ====
/- The kernel's results on its blocks, read at an index. Each step is stated at any operand, so that no step unfolds the one before it. -/
module

public import proofs.«01_k».proof.Proof.Spec
public import proofs.«01_k».proof.Proof.Gen.KernelIdeal.Frame

@[expose] public section

set_option maxRecDepth 16384

noncomputable section

namespace Cert.KernelIdeal.Pure

open Cert.KernelIdeal Cert.KernelIdeal.Gen Cert.Proof Idealize.ShloMosaic

/-! ## The steps -/

/-- The row maxima of a matrix, as a column. -/
def maxV (v : FVec Ideal S32x5120 .f32) : FVec Ideal S32x1 .f32 :=
  shapeCast S32x1 (multiReduction .maximumf [1] S32 v 0xFF800000#32 reduces_S32x5120_S32 (.inl rfl) rfl) shapeCasts_S32_S32x1

/-- The scaled maxima. -/
def sizedV (a : FVec Ideal S32x1 .f32) : FVec Ideal S32x1 .f32 :=
  mulf a (broadcast S32x1 (Scalar.ofBits .f32 0x3B124925#32))

/-- A step of the search. -/
def keepV (t : FVec Ideal S32x1 .f32) (w : IVec S32x1 32) (b : BitVec 32) : IVec S32x1 32 :=
  select (cmpf .oge t (bitcastToFloat .f32 (ori w (broadcast S32x1 b)))) (ori w (broadcast S32x1 b)) w

/-- The exponents of the scales, from the words found. -/
def expV (a : FVec Ideal S32x1 .f32) (w : IVec S32x1 32) : IVec S32x1 32 :=
  select (ori (ori (cmpi .eq (andi (shrsi w (broadcast S32x1 23#32)) (broadcast S32x1 255#32)) (broadcast S32x1 0#32))
      (cmpi .eq (andi (shrsi w (broadcast S32x1 23#32)) (broadcast S32x1 255#32)) (broadcast S32x1 255#32)))
      (cmpf .oeq a (broadcast S32x1 (Scalar.ofBits .f32 0x00000000#32))))
    (broadcast S32x1 0#32)
    (subi (andi (shrsi w (broadcast S32x1 23#32)) (broadcast S32x1 255#32)) (broadcast S32x1 126#32))

/-- The scales, from the exponents. -/
def scaleV (e : IVec S32x1 32) : FVec Ideal S32x1 .f32 :=
  bitcastToFloat .f32 (shli (addi (broadcast S32x1 127#32) e) (broadcast S32x1 23#32))

/-- The inverse scales, from the exponents. -/
def invV (e : IVec S32x1 32) : FVec Ideal S32x1 .f32 :=
  bitcastToFloat .f32 (shli (subi (broadcast S32x1 127#32) e) (broadcast S32x1 23#32))

/-- The codes, from the quotients and the inverse scales. -/
def codeV (q : FVec Ideal S32x5120 .f32) (i : FVec Ideal S32x1 .f32) : FVec Ideal S32x5120 .fp8e4m3 :=
  truncf .fp8e4m3 (minimumf (broadcast S32x5120 (Scalar.ofBits .f32 0x43E00000#32))
    (maximumf (broadcast S32x5120 (Scalar.ofBits .f32 0xC3E00000#32))
      (mulf q (broadcastTo S32x5120 i broadcasts_S32x1_S32x5120)))) bitsLt_fp8e4m3_f32

variable (x : Vec Ideal S32x5120 .bf16) (s : Vec Ideal S1x5120 .f32)

theorem pay4_steps : k0_pay4 (F := Ideal) x s = maxV (absf (k0_pay3 x s)) := rfl
theorem pay5_steps : k0_pay5 (F := Ideal) x s = sizedV (k0_pay4 x s) := rfl
theorem pay6_steps : k0_pay6 (F := Ideal) x s = keepV (k0_pay5 x s) (keepV (k0_pay5 x s) (keepV (k0_pay5 x s)
    (keepV (k0_pay5 x s) (keepV (k0_pay5 x s) (keepV (k0_pay5 x s) (broadcast S32x1 0#32) 1073741824#32) 536870912#32)
      268435456#32) 134217728#32) 67108864#32) 33554432#32 := rfl

theorem pay7_steps (a t : FVec Ideal S32x1 .f32) (w : IVec S32x1 32) :
    k0_pay7 (F := Ideal) a t w = expV a (keepV t (keepV t w 16777216#32) 8388608#32) := rfl
theorem pay8_steps (a t : FVec Ideal S32x1 .f32) (w : IVec S32x1 32) :
    k0_pay8 (F := Ideal) a t w = scaleV (k0_pay7 (F := Ideal) a t w) := rfl
theorem pay9_steps (q : FVec Ideal S32x5120 .f32) (a t : FVec Ideal S32x1 .f32) (w : IVec S32x1 32) :
    k0_pay9 (F := Ideal) q a t w = codeV q (invV (k0_pay7 (F := Ideal) a t w)) := rfl

/-! ## The steps at an index -/

theorem quot_at (r : Fin 32) (k : Fin 5120) : k0_pay3 (F := Ideal) x s (ix2 r k) = quot x s r k := by
  pointwise [k0_pay3, quot]

/-- The row maxima of a matrix. -/
theorem rowMax_at (v : FVec Ideal S32x5120 .f32) (r : Fin 32) :
    multiReduction (F := Ideal) .maximumf [1] S32 v 0xFF800000#32 reduces_S32x5120_S32 (.inl rfl) rfl (ix1 r)
      = Finset.univ.fold max (Ideal.ofBits .f32 0xFF800000#32) fun k : Fin 5120 => v (ix2 r k) := by
  pointwise

theorem column_at (u : FVec Ideal S32 .f32) (r : Fin 32) (z : Fin 1) :
    shapeCast S32x1 u shapeCasts_S32_S32x1 (ix2 r z) = u (ix1 r) := by
  pointwise

theorem maxV_at (q : FVec Ideal S32x5120 .f32) (r : Fin 32) (z : Fin 1) :
    maxV (absf q) (ix2 r z) = amax (fun k => q (ix2 r k)) :=
  (column_at _ r z).trans (rowMax_at (absf q) r)

theorem sizedV_at (a : FVec Ideal S32x1 .f32) (j : S32x1.Idx) : sizedV a j = a j * Ideal.ofBits .f32 0x3B124925#32 := rfl

theorem keepV_at (t : FVec Ideal S32x1 .f32) (w : IVec S32x1 32) (b : BitVec 32) (j : S32x1.Idx) :
    keepV t w b j = keep (atMost (t j)) (w j) b := rfl

theorem expV_at (a : FVec Ideal S32x1 .f32) (w : IVec S32x1 32) (j : S32x1.Idx) : expV a w j = expo (a j) (w j) := rfl

theorem scaleV_at (e : IVec S32x1 32) (j : S32x1.Idx) :
    scaleV e j = Ideal.ofBits .f32 (IntOp.shli .vector (IntOp.addi 127#32 (e j)) 23#32) := rfl

theorem invV_at (e : IVec S32x1 32) (j : S32x1.Idx) :
    invV e j = Ideal.ofBits .f32 (IntOp.shli .vector (IntOp.subi 127#32 (e j)) 23#32) := rfl

theorem codeV_at (q : FVec Ideal S32x5120 .f32) (i : FVec Ideal S32x1 .f32) (r : Fin 32) (k : Fin 5120) :
    codeV q i (ix2 r k) = code (i (ix2 r 0)) (q (ix2 r k)) := by
  pointwise [codeV, code]

/-! ## The results of a trip -/

theorem pay4_at (r : Fin 32) (z : Fin 1) : k0_pay4 (F := Ideal) x s (ix2 r z) = amax (quot x s r) := by
  rw [pay4_steps, maxV_at]
  exact congrArg amax (funext fun k => quot_at x s r k)

theorem pay5_at (r : Fin 32) (z : Fin 1) : k0_pay5 (F := Ideal) x s (ix2 r z) = sized (quot x s r) := by
  rw [pay5_steps, sizedV_at, pay4_at, sized]

theorem pay6_at (r : Fin 32) (z : Fin 1) : k0_pay6 (F := Ideal) x s (ix2 r z) = search6 (atMost (sized (quot x s r))) := by
  rw [pay6_steps]
  simp only [keepV_at, pay5_at]
  rfl

theorem pay7_at (r : Fin 32) (z : Fin 1) :
    k0_pay7 (F := Ideal) (k0_pay4 x s) (k0_pay5 x s) (k0_pay6 (F := Ideal) x s) (ix2 r z)
      = expo (amax (quot x s r)) (search (atMost (sized (quot x s r)))) := by
  rw [pay7_steps, expV_at, keepV_at, keepV_at, pay4_at, pay5_at, pay6_at, search, search2]

/-- The scales that a trip stores. -/
theorem scale_eq : k0_pay1 (F := Ideal) (k0_pay8 (k0_pay4 x s) (k0_pay5 x s) (k0_pay6 (F := Ideal) x s)) = scales kS x s := by
  have h : ∀ v : FVec Ideal S32x1 .f32, k0_pay1 (F := Ideal) v = v := by
    intro v; funext j; idx_vars j; pointwise [k0_pay1]
  rw [h]
  funext j
  idx_vars j
  rw [pay8_steps, scaleV_at, pay7_at, scales_at, kS, kScale]

/-- The codes that a trip stores. -/
theorem code_eq : k0_pay9 (F := Ideal) (k0_pay3 x s) (k0_pay4 x s) (k0_pay5 x s) (k0_pay6 (F := Ideal) x s) = codes kI x s := by
  funext j
  idx_vars j
  rw [pay9_steps, codeV_at, invV_at, pay7_at, quot_at, codes_at, kI, kInv]

/-! ## The product of a block -/

theorem out_at (cd : FVec Ideal S512x5120 .fp8e4m3) (sc : FVec Ideal S512x1 .f32) (w : Vec Ideal S3456x5120 .fp8e4m3)
    (ws : Vec Ideal S1x3456 .f32) (r : Fin 512) (n : Fin 3456) : k0_pay2 (F := Ideal) sc cd w ws (ix2 r n) = outs cd sc w ws (ix2 r n) := by
  pointwise [k0_pay2, outs]

theorem out_eq (cd : FVec Ideal S512x5120 .fp8e4m3) (sc : FVec Ideal S512x1 .f32) (w : Vec Ideal S3456x5120 .fp8e4m3)
    (ws : Vec Ideal S1x3456 .f32) : k0_pay2 (F := Ideal) sc cd w ws = outs cd sc w ws := by
  funext j
  idx_vars j
  exact out_at cd sc w ws _ _

end Cert.KernelIdeal.Pure

end
-- ==== Proof.KernelBlock.lean ====
/- What the kernel's body leaves in its three result blocks at one grid point. -/
module

public import proofs.«01_k».proof.Proof.KernelPure
public import Idealize.ShloMosaic.Lib.Pipeline.ValueKit

@[expose] public section

set_option maxRecDepth 16384

noncomputable section

namespace Cert.KernelIdeal.Block

open Cert.KernelIdeal Cert.KernelIdeal.Gen Cert.KernelIdeal.Pure Cert.Proof
open Idealize.ShloMosaic Idealize.ShloMosaic.TcCoe Idealize.SL.Sem

variable (c : Dev nD) (i : grid0.Coords) (arg1 : Memref sig .tc .vmem S512x5120 .bf16) (harg1 : arg1.IsWhole)
  (arg2 : Memref sig .tc .vmem S1x5120 .f32) (harg2 : arg2.IsWhole) (arg3 : Memref sig .tc .vmem S3456x5120 .fp8e4m3) (harg3 : arg3.IsWhole)
  (arg4 : Memref sig .tc .vmem S1x3456 .f32) (harg4 : arg4.IsWhole) (arg5 : Memref sig .tc .vmem S512x3456 .bf16) (harg5 : arg5.IsWhole)
  (arg6 : Memref sig .tc .vmem S512x5120 .fp8e4m3) (harg6 : arg6.IsWhole) (arg7 : Memref sig .tc .vmem S512x1 .f32) (harg7 : arg7.IsWhole)
  (arg8 : Memref sig .tc .vmem S512x1 .f32) (harg8 : arg8.IsWhole)
  (x0 : Vec Ideal S512x5120 .bf16) (x1 : Vec Ideal S1x5120 .f32) (x2 : Vec Ideal S3456x5120 .fp8e4m3) (x3 : Vec Ideal S1x3456 .f32)

/-- The 32 rows that trip `k` reads. -/
def rows (x0 : Vec Ideal S512x5120 .bf16) (k : Fin k0_t1_loop.trips) : Vec Ideal S32x5120 .bf16 :=
  View.ld (Val := Elt Ideal) x0 (Rect.unit (s := S512x5120) (k0_off1 k) S32x5120.size (k0_off1_inb k))

theorem zero2 : (![0, 0] : Fin 2 → ℕ) = fun _ => 0 := by funext a; fin_cases a <;> rfl

/-- The codes that trip `k` stores. -/
theorem trip_codes (k : Fin k0_t1_loop.trips) :
    (tripL_k0_t1 (F := Ideal) Variants.none c none i arg1 harg1 arg2 harg2 arg3 harg3 arg4 harg4 arg5 harg5 arg6 harg6 arg7 harg7 arg8 harg8
      (harg1.unread x0) (harg2.unread x1) k).1
      = [⟨Rect.unit (s := S512x5120) (k0_off1 k) S32x5120.size (k0_off1_inb k), codes kI (rows x0 k) x1⟩] := by
  unfold tripL_k0_t1 trip_k0_t1
  dsimp only
  sl_unfold_words
  simp only [View.readAt_eq_ld, harg1.read_unread, harg2.read_unread]
  rw [View.ld_unit_zero zero2]
  rw [← code_eq]
  rfl

/-- The scales that trip `k` stores. -/
theorem trip_scales (k : Fin k0_t1_loop.trips) :
    (tripL_k0_t1 (F := Ideal) Variants.none c none i arg1 harg1 arg2 harg2 arg3 harg3 arg4 harg4 arg5 harg5 arg6 harg6 arg7 harg7 arg8 harg8
      (harg1.unread x0) (harg2.unread x1) k).2
      = [⟨Rect.unit (s := S512x1) (k0_off2 k) S32x1.size (k0_off2_inb k), scales kS (rows x0 k) x1⟩] := by
  unfold tripL_k0_t1 trip_k0_t1
  dsimp only
  sl_unfold_words
  simp only [View.readAt_eq_ld, harg1.read_unread, harg2.read_unread]
  rw [View.ld_unit_zero zero2]
  rw [← scale_eq]
  rfl

/-- The boxes that trip `k` stores into. -/
abbrev codeBox (k : Fin k0_t1_loop.trips) : Rect S512x5120 := Rect.unit (s := S512x5120) (k0_off1 k) S32x5120.size (k0_off1_inb k)
abbrev scaleBox (k : Fin k0_t1_loop.trips) : Rect S512x1 := Rect.unit (s := S512x1) (k0_off2 k) S32x1.size (k0_off2_inb k)

theorem codeBox_0 (k : Fin k0_t1_loop.trips) (y : S32x5120.Idx) : ((codeBox k).emb y 0 : ℕ) = 32 * k.val + y 0 := by
  have h := congrFun (k0_off1_eq k) 0
  show k0_off1 k 0 + 1 * (y 0 : ℕ) = _
  rw [h, Nat.one_mul]; rfl

theorem codeBox_1 (k : Fin k0_t1_loop.trips) (y : S32x5120.Idx) : ((codeBox k).emb y 1 : ℕ) = y 1 := by
  have h := congrFun (k0_off1_eq k) 1
  show k0_off1 k 1 + 1 * (y 1 : ℕ) = _
  rw [h, Nat.one_mul]; exact Nat.zero_add _

theorem scaleBox_0 (k : Fin k0_t1_loop.trips) (y : S32x1.Idx) : ((scaleBox k).emb y 0 : ℕ) = 32 * k.val + y 0 := by
  have h := congrFun (k0_off2_eq k) 0
  show k0_off2 k 0 + 1 * (y 0 : ℕ) = _
  rw [h, Nat.one_mul]; rfl

/-- Row `r` of the trip's rows is row `R` of the block, where `R` is 32 rows per earlier trip further down. -/
theorem quot_rows (k : Fin k0_t1_loop.trips) (r : Fin 32) (R : Fin 512) (hR : (R : ℕ) = 32 * k.val + r) :
    quot (n := 32) (rows x0 k) x1 r = quot (n := 512) x0 x1 R := by
  funext l
  refine congrArg (fun a : EReal => Ideal.div a (x1 (ix2 0 l))) ?_
  show x0 ((codeBox k).emb (ix2 r l)) = x0 (ix2 R l)
  refine congrArg x0 (funext fun a => Fin.ext ?_)
  match a with
  | ⟨0, _⟩ => exact (codeBox_0 k (ix2 r l)).trans hR.symm
  | ⟨1, _⟩ => exact codeBox_1 k (ix2 r l)

theorem codes_rows (k : Fin k0_t1_loop.trips) (y : S32x5120.Idx) :
    codes (n := 32) kI (rows x0 k) x1 y = codes (n := 512) kI x0 x1 ((codeBox k).emb y) := by
  have hq := quot_rows x0 x1 k (y 0) ((codeBox k).emb y 0) (codeBox_0 k y)
  have h1 : (codeBox k).emb y 1 = y 1 := Fin.ext (codeBox_1 k y)
  unfold codes
  rw [hq, h1]

theorem scales_rows (k : Fin k0_t1_loop.trips) (y : S32x1.Idx) :
    scales (n := 32) kS (rows x0 k) x1 y = scales (n := 512) kS x0 x1 ((scaleBox k).emb y) := by
  have hq := quot_rows x0 x1 k (y 0) ((scaleBox k).emb y 0) (scaleBox_0 k y)
  unfold scales
  rw [hq]

/-- The stores of the trips before trip `n`. -/
abbrev pieces (n : ℕ) := pb_k0_t1 (F := Ideal) Variants.none c none i arg1 harg1 arg2 harg2 arg3 harg3 arg4 harg4 arg5 harg5 arg6 harg6 arg7 harg7 arg8 harg8
      (harg1.unread x0) (harg2.unread x1) n

/-- Every store of the loop holds its part of the block's codes, or of its scales. -/
theorem pieces_hold (n : ℕ) (hn : n ≤ k0_t1_loop.trips) :
    (∀ p ∈ (pieces c i arg1 harg1 arg2 harg2 arg3 harg3 arg4 harg4 arg5 harg5 arg6 harg6 arg7 harg7 arg8 harg8 x0 x1 n).1,
        ∀ y : p.1.shape.Idx, p.2 y = codes (n := 512) kI x0 x1 (p.1.emb y))
      ∧ ∀ p ∈ (pieces c i arg1 harg1 arg2 harg2 arg3 harg3 arg4 harg4 arg5 harg5 arg6 harg6 arg7 harg7 arg8 harg8 x0 x1 n).2,
        ∀ y : p.1.shape.Idx, p.2 y = scales (n := 512) kS x0 x1 (p.1.emb y) := by
  induction n with
  | zero => exact ⟨fun p h => absurd h List.not_mem_nil, fun p h => absurd h List.not_mem_nil⟩
  | succ n ih =>
    have h := pb_k0_t1_succ (F := Ideal) Variants.none c none i arg1 harg1 arg2 harg2 arg3 harg3 arg4 harg4 arg5 harg5 arg6 harg6 arg7 harg7 arg8 harg8
      (harg1.unread x0) (harg2.unread x1) ⟨n, hn⟩
    obtain ⟨ih1, ih2⟩ := ih (Nat.le_of_succ_le hn)
    rw [trip_codes, trip_scales] at h
    unfold pieces
    rw [h]
    constructor
    · intro p hp
      rcases List.mem_cons.mp hp with rfl | hp
      · exact codes_rows x0 x1 ⟨n, hn⟩
      · exact ih1 p hp
    · intro p hp
      rcases List.mem_cons.mp hp with rfl | hp
      · exact scales_rows x0 x1 ⟨n, hn⟩
      · exact ih2 p hp

/-- The loop's stores together leave the block's codes, and the block's scales. -/
theorem loop_codes : View.canon (pieces c i arg1 harg1 arg2 harg2 arg3 harg3 arg4 harg4 arg5 harg5 arg6 harg6 arg7 harg7 arg8 harg8 x0 x1 k0_t1_loop.trips).1 = codes (n := 512) kI x0 x1 :=
  funext fun y => View.canon_apply_of_pieces _ _ (pieces_hold c i arg1 harg1 arg2 harg2 arg3 harg3 arg4 harg4 arg5 harg5 arg6 harg6 arg7 harg7 arg8 harg8 x0 x1 _ le_rfl).1 y
    (View.cover_of_tiledL (pieces c i arg1 harg1 arg2 harg2 arg3 harg3 arg4 harg4 arg5 harg5 arg6 harg6 arg7 harg7 arg8 harg8 x0 x1 k0_t1_loop.trips).1 S32x5120.size (by sl_kernel_rfl) y)

theorem loop_scales : View.canon (pieces c i arg1 harg1 arg2 harg2 arg3 harg3 arg4 harg4 arg5 harg5 arg6 harg6 arg7 harg7 arg8 harg8 x0 x1 k0_t1_loop.trips).2 = scales (n := 512) kS x0 x1 :=
  funext fun y => View.canon_apply_of_pieces _ _ (pieces_hold c i arg1 harg1 arg2 harg2 arg3 harg3 arg4 harg4 arg5 harg5 arg6 harg6 arg7 harg7 arg8 harg8 x0 x1 _ le_rfl).2 y
    (View.cover_of_tiledL (pieces c i arg1 harg1 arg2 harg2 arg3 harg3 arg4 harg4 arg5 harg5 arg6 harg6 arg7 harg7 arg8 harg8 x0 x1 k0_t1_loop.trips).2 S32x1.size (by sl_kernel_rfl) y)

/-- The block's scales, read back whole from the scratch. -/
theorem read_scales (inb : ∀ a, (![0, 0] : Fin 2 → ℕ) a + S512x1.size a ≤ S512x1.size a) :
    arg8.view.readCov (pieces c i arg1 harg1 arg2 harg2 arg3 harg3 arg4 harg4 arg5 harg5 arg6 harg6 arg7 harg7 arg8 harg8 x0 x1 k0_t1_loop.trips).2 (Rect.unit (s := S512x1) ![0, 0] S512x1.size inb).toLoadRect = scales (n := 512) kS x0 x1 := by
  refine (View.readCov_eq_canon_ld _ _ _ (View.cover_of_tiledL (pieces c i arg1 harg1 arg2 harg2 arg3 harg3 arg4 harg4 arg5 harg5 arg6 harg6 arg7 harg7 arg8 harg8 x0 x1 k0_t1_loop.trips).2 S32x1.size (by sl_kernel_rfl))).trans ?_
  rw [loop_scales, View.ld_unit_zero zero2]

/-- The block's codes, read back whole from the result's block. -/
theorem read_codes (inb : ∀ a, (![0, 0] : Fin 2 → ℕ) a + S512x5120.size a ≤ S512x5120.size a) :
    arg6.view.readCov (pieces c i arg1 harg1 arg2 harg2 arg3 harg3 arg4 harg4 arg5 harg5 arg6 harg6 arg7 harg7 arg8 harg8 x0 x1 k0_t1_loop.trips).1 (Rect.unit (s := S512x5120) ![0, 0] S512x5120.size inb).toLoadRect = codes (n := 512) kI x0 x1 := by
  refine (View.readCov_eq_canon_ld _ _ _ (View.cover_of_tiledL (pieces c i arg1 harg1 arg2 harg2 arg3 harg3 arg4 harg4 arg5 harg5 arg6 harg6 arg7 harg7 arg8 harg8 x0 x1 k0_t1_loop.trips).1 S32x5120.size (by sl_kernel_rfl))).trans ?_
  rw [loop_codes, View.ld_unit_zero zero2]

/-- The codes that the body leaves. -/
theorem block_codes : out0_A_5 (F := Ideal) c i arg1 harg1 arg2 harg2 arg3 harg3 arg4 harg4 arg5 harg5 arg6 harg6 arg7 harg7 arg8 harg8 x0 x1 x2 x3 = codes (n := 512) kI x0 x1 := by
  unfold out0_A_5
  rw [View.read_writes_junk_eq_canon]
  unfold kernelRun0_A
  dsimp only
  sl_unfold_words
  exact loop_codes c i arg1 harg1 arg2 harg2 arg3 harg3 arg4 harg4 arg5 harg5 arg6 harg6 arg7 harg7 arg8 harg8 x0 x1

/-- The scales that the body leaves. -/
theorem block_scales : out0_A_6 (F := Ideal) c i arg1 harg1 arg2 harg2 arg3 harg3 arg4 harg4 arg5 harg5 arg6 harg6 arg7 harg7 arg8 harg8 x0 x1 x2 x3 = scales (n := 512) kS x0 x1 := by
  unfold out0_A_6
  rw [View.read_writes_junk_eq_canon]
  unfold kernelRun0_A
  dsimp only
  sl_unfold_words
  rw [View.canon_unit_zero zero2]
  exact read_scales c i arg1 harg1 arg2 harg2 arg3 harg3 arg4 harg4 arg5 harg5 arg6 harg6 arg7 harg7 arg8 harg8 x0 x1 _

/-- The product that the body leaves. -/
theorem block_out : out0_A_4 (F := Ideal) c i arg1 harg1 arg2 harg2 arg3 harg3 arg4 harg4 arg5 harg5 arg6 harg6 arg7 harg7 arg8 harg8 x0 x1 x2 x3
    = outs (n := 512) (codes kI x0 x1) (scales kS x0 x1) x2 x3 := by
  unfold out0_A_4
  rw [View.read_writes_junk_eq_canon]
  unfold kernelRun0_A
  dsimp only
  sl_unfold_words
  rw [View.canon_unit_zero zero2]
  simp only [View.readAt_eq_ld, harg3.read_unread, harg4.read_unread]
  rw [View.ld_unit_zero zero2, View.ld_unit_zero zero2]
  have h1 := read_scales c i arg1 harg1 arg2 harg2 arg3 harg3 arg4 harg4 arg5 harg5 arg6 harg6 arg7 harg7 arg8 harg8 x0 x1 inb_S512x1_S512x1_0_0
  have h2 := read_codes c i arg1 harg1 arg2 harg2 arg3 harg3 arg4 harg4 arg5 harg5 arg6 harg6 arg7 harg7 arg8 harg8 x0 x1 inb_S512x5120_S512x5120_0_0
  exact (congrArg₂ (fun u v => k0_pay2 (F := Ideal) u v x2 x3) h1 h2).trans (out_eq _ _ x2 x3)

end Cert.KernelIdeal.Block

end
-- ==== Proof.KernelValue.lean ====
/- The kernel's three result arrays after its run, as functions of the argument arrays. -/
module

public import proofs.«01_k».proof.Proof.KernelBlock
public import proofs.«01_k».proof.Proof.Gen.KernelIdeal.Value

@[expose] public section

set_option maxRecDepth 16384

noncomputable section

namespace Cert.KernelIdeal.Arrays

open Cert.KernelIdeal Cert.KernelIdeal.Gen Cert.KernelIdeal.Pure Cert.KernelIdeal.Block Cert.Proof
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations as a matrix: one row per token. -/
abbrev xArr (c : Dev nD) : (Sh 12288 5120).Idx → EReal :=
  shapeCast S12288x5120 (m ((c : Thread nD τ).loc main_arg0)) shapeCasts_S8x1536x5120_S12288x5120

/-- The smoothing factors as a row. -/
abbrev sArr (c : Dev nD) : (Sh 1 5120).Idx → EReal :=
  shapeCast S1x5120 (m ((c : Thread nD τ).loc main_arg1)) shapeCasts_S5120_S1x5120

/-- The weights' codes. -/
abbrev wArr (c : Dev nD) : (Sh 3456 5120).Idx → EReal := m ((c : Thread nD τ).loc main_arg2)

/-- The weights' scales as a row. -/
abbrev gArr (c : Dev nD) : (Sh 1 3456).Idx → EReal :=
  shapeCast S1x3456 (m ((c : Thread nD τ).loc main_arg3)) shapeCasts_S3456_S1x3456

theorem V_x (c : Dev nD) : V m c main_v0 = xArr m c := by unfold_abbrev_sides; after_results; rfl
theorem V_s (c : Dev nD) : V m c main_v1 = sArr m c := by unfold_abbrev_sides; after_results; rfl
theorem V_g (c : Dev nD) : V m c main_v2 = gArr m c := by unfold_abbrev_sides; after_results; rfl

theorem i0 : ∀ t : Fin cfg0.N, win0_0.index t 0 = t.val ∧ win0_0.index t 1 = 0 := (by decide +kernel : ∀ t : Fin grid0.N, win0_0.index t 0 = t.val ∧ win0_0.index t 1 = 0)
theorem i4 : ∀ t : Fin cfg0.N, win0_4.index t 0 = t.val ∧ win0_4.index t 1 = 0 := (by decide +kernel : ∀ t : Fin grid0.N, win0_4.index t 0 = t.val ∧ win0_4.index t 1 = 0)
theorem i5 : ∀ t : Fin cfg0.N, win0_5.index t 0 = t.val ∧ win0_5.index t 1 = 0 := (by decide +kernel : ∀ t : Fin grid0.N, win0_5.index t 0 = t.val ∧ win0_5.index t 1 = 0)
theorem i6 : ∀ t : Fin cfg0.N, win0_6.index t 0 = t.val ∧ win0_6.index t 1 = 0 := (by decide +kernel : ∀ t : Fin grid0.N, win0_6.index t 0 = t.val ∧ win0_6.index t 1 = 0)
theorem e1 : ∀ t : Fin cfg0.N, ∀ a, win0_1.index t a = 0 := (by decide +kernel : ∀ t : Fin grid0.N, ∀ a, win0_1.index t a = 0)
theorem e2 : ∀ t : Fin cfg0.N, ∀ a, win0_2.index t a = 0 := (by decide +kernel : ∀ t : Fin grid0.N, ∀ a, win0_2.index t a = 0)
theorem e3 : ∀ t : Fin cfg0.N, ∀ a, win0_3.index t a = 0 := (by decide +kernel : ∀ t : Fin grid0.N, ∀ a, win0_3.index t a = 0)

theorem blk_s (c : Dev nD) (t : Fin cfg0.N) : iblk m c 1 t = sArr m c := by
  refine Eq.trans (b := V m c main_v1) (funext fun y => ?_) (V_s m c)
  blk_simp [iblk]
  exact congrArg _ (funext fun a => Fin.ext (by blk_simp; rw [e1 t a, Nat.zero_mul, Nat.zero_add]))
theorem blk_w (c : Dev nD) (t : Fin cfg0.N) : iblk m c 2 t = wArr m c := by
  refine Eq.trans (b := V m c main_arg2) (funext fun y => ?_) (V_main_arg2 m c)
  blk_simp [iblk]
  exact congrArg _ (funext fun a => Fin.ext (by blk_simp; rw [e2 t a, Nat.zero_mul, Nat.zero_add]))
theorem blk_g (c : Dev nD) (t : Fin cfg0.N) : iblk m c 3 t = gArr m c := by
  refine Eq.trans (b := V m c main_v2) (funext fun y => ?_) (V_g m c)
  blk_simp [iblk]
  exact congrArg _ (funext fun a => Fin.ext (by blk_simp; rw [e3 t a, Nat.zero_mul, Nat.zero_add]))

/-- Row `r` of the block of point `t` is row `R` of the array, where `R` is 512 rows per earlier point further down. -/
theorem quot_blk (c : Dev nD) (t : Fin cfg0.N) (r : Fin 512) (R : Fin 12288) (hR : (R : ℕ) = t.val * 512 + r) :
    quot (n := 512) (iblk m c 0 t) (sArr m c) r = quot (n := 12288) (xArr m c) (sArr m c) R := by
  funext l
  refine congrArg (fun a : EReal => Ideal.div a (sArr m c (ix2 0 l))) ?_
  rw [← V_x m c]
  blk_simp [iblk]
  refine congrArg _ (funext fun a => Fin.ext ?_)
  obtain ⟨h0, h1⟩ := i0 t
  match a with
  | ⟨0, _⟩ => blk_simp; omega
  | ⟨1, _⟩ => blk_simp; rw [h1, Nat.zero_mul, Nat.zero_add]

/-- The product at an index depends on the activations only through the quotients of that index's row. -/
theorem outs_congr (inv sc : Row → EReal) {n N : ℕ} (x : (Sh n 5120).Idx → EReal) (X : (Sh N 5120).Idx → EReal)
    (s : (Sh 1 5120).Idx → EReal) (w : (Sh 3456 5120).Idx → EReal) (ws : (Sh 1 3456).Idx → EReal) (j : (Sh n 3456).Idx)
    (J : (Sh N 3456).Idx) (hq : quot x s (j 0) = quot X s (J 0)) (hk : J 1 = j 1) :
    outs (codes inv x s) (scales sc x s) w ws j = outs (codes inv X s) (scales sc X s) w ws J := by
  show (∑ k : Fin 5120, code (inv (quot x s (j 0))) (quot x s (j 0) k) * w (ix2 (j 1) k)) * sc (quot x s (j 0)) * ws (ix2 0 (j 1))
    = (∑ k : Fin 5120, code (inv (quot X s (J 0))) (quot X s (J 0) k) * w (ix2 (J 1) k)) * sc (quot X s (J 0)) * ws (ix2 0 (J 1))
  rw [hq, hk]

/-- The result arrays after the run. -/
theorem arr5 (c : Dev nD) : (dats m 0 c).arrAt 5 cfg0.N = codes kI (xArr m c) (sArr m c) := by
  refine (dats m 0 c).arrAt_eq_of_covers 5 _ (by decide +kernel) fun t hf y => ?_
  blk_simp
  rw [after0_5]
  unfold outsAt0
  dsimp only
  rw [block_codes, blk_s]
  obtain ⟨h0, h1⟩ := i5 t
  have hq := quot_blk m c t (y 0) (((win0_5.blk t).view.emb y) 0) (by blk_simp; rw [h0])
  have hk : ((win0_5.blk t).view.emb y) 1 = y 1 := Fin.ext (by blk_simp; rw [h1, Nat.zero_mul, Nat.zero_add])
  unfold codes
  rw [hq, hk]

theorem arr6 (c : Dev nD) : (dats m 0 c).arrAt 6 cfg0.N = scales kS (xArr m c) (sArr m c) := by
  refine (dats m 0 c).arrAt_eq_of_covers 6 _ (by decide +kernel) fun t hf y => ?_
  blk_simp
  rw [after0_6]
  unfold outsAt0
  dsimp only
  rw [block_scales, blk_s]
  obtain ⟨h0, h1⟩ := i6 t
  have hq := quot_blk m c t (y 0) (((win0_6.blk t).view.emb y) 0) (by blk_simp; rw [h0])
  unfold scales
  rw [hq]

theorem arr4 (c : Dev nD) : (dats m 0 c).arrAt 4 cfg0.N
    = outs (codes kI (xArr m c) (sArr m c)) (scales kS (xArr m c) (sArr m c)) (wArr m c) (gArr m c) := by
  refine (dats m 0 c).arrAt_eq_of_covers 4 _ (by decide +kernel) fun t hf y => ?_
  blk_simp
  rw [after0_4]
  unfold outsAt0
  dsimp only
  rw [block_out, blk_s, blk_w, blk_g]
  obtain ⟨h0, h1⟩ := i4 t
  have hq := quot_blk m c t (y 0) (((win0_4.blk t).view.emb y) 0) (by blk_simp; rw [h0])
  have hk : ((win0_4.blk t).view.emb y) 1 = y 1 := Fin.ext (by blk_simp; rw [h1, Nat.zero_mul, Nat.zero_add])
  exact outs_congr _ _ _ _ _ _ _ y _ hq hk

/-- The kernel's run: its three results are those functions of its arguments, which it leaves as they were. -/
theorem run : θ_run defs (onTc (τ := τ) (main (F := Ideal))) ⟨m, fun _ => 0, ρ⟩ fun r => ∀ c : Dev nD,
      r.2.mem ((c : Thread nD τ).loc main_v3_0)
        = outs (codes kI (xArr m c) (sArr m c)) (scales kS (xArr m c) (sArr m c)) (wArr m c) (gArr m c)
      ∧ r.2.mem ((c : Thread nD τ).loc main_v3_1) = codes kI (xArr m c) (sArr m c)
      ∧ r.2.mem ((c : Thread nD τ).loc main_v3_2) = scales kS (xArr m c) (sArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => by
      obtain ⟨h4, h5, h6, hk⟩ := h c
      exact ⟨h4.trans (arr4 m c), h5.trans (arr5 m c), h6.trans (arr6 m c), hk⟩)
    (Cert.KernelIdeal.Value.run_blocks m ρ)

end Cert.KernelIdeal.Arrays

end
-- ==== Proof.RefPure.lean ====
/- The reference's results, read at an index. Each step is stated at any operand, so that no step unfolds the one before it. -/
module

public import proofs.«01_k».proof.Proof.Spec
public import proofs.«01_k».proof.Proof.Gen.ReferenceIdeal.Frame

@[expose] public section

set_option maxRecDepth 16384

noncomputable section

namespace Cert.ReferenceIdeal.Pure

open Cert.ReferenceIdeal Cert.ReferenceIdeal.Gen Cert.Proof Idealize.ShloMosaic

/-! ## The steps -/

/-- The scaled row maxima of a matrix. -/
def sizedV (q : FVec Ideal S12288x5120 .f32) : FVec Ideal S12288x1 .f32 :=
  mulf (shapeCast S12288x1 (multiReduction .maximumf [1] S12288 (absf q) 0xFF800000#32 reduces_S12288x5120_S12288 (.inl rfl) rfl)
    shapeCasts_S12288_S12288x1) (broadcast S12288x1 (Scalar.ofBits .f32 0x3B124925#32))

/-- The exponents of the scales. -/
def expV (t : FVec Ideal S12288x1 .f32) : FVec Ideal S12288x1 .f32 :=
  select (ori (cmpf .olt t (broadcast S12288x1 (Scalar.ofBits .f32 0x00800000#32)))
      (cmpf .oeq t (broadcast S12288x1 (Scalar.ofBits .f32 0x7F800000#32))))
    (broadcast S12288x1 (Scalar.ofBits .f32 0x00000000#32))
    (addf (floor (divf (log t) (log (broadcast S12288x1 (Scalar.ofBits .f32 0x40000000#32)))))
      (broadcast S12288x1 (Scalar.ofBits .f32 0x3F800000#32)))

/-- The inverse scales, from the exponents. -/
def invV (e : FVec Ideal S12288x1 .f32) : FVec Ideal S12288x1 .f32 :=
  exp2 (subf (broadcast S12288x1 (Scalar.ofBits .f32 0x00000000#32)) e)

/-- The codes, from the quotients and the inverse scales. -/
def codeV (q : FVec Ideal S12288x5120 .f32) (i : FVec Ideal S12288x1 .f32) : FVec Ideal S12288x5120 .fp8e4m3 :=
  truncf .fp8e4m3 (minimumf (broadcast S12288x5120 (Scalar.ofBits .f32 0x43E00000#32))
    (maximumf (broadcast S12288x5120 (Scalar.ofBits .f32 0xC3E00000#32))
      (mulf q (broadcastTo S12288x5120 i broadcasts_S12288x1_S12288x5120)))) bitsLt_fp8e4m3_f32

/-- The product and its two scales. -/
def outV (cd : FVec Ideal S12288x5120 .fp8e4m3) (sc : FVec Ideal S12288x1 .f32) (w : Vec Ideal S3456x5120 .fp8e4m3)
    (ws : Vec Ideal S1x3456 .f32) : FVec Ideal S12288x3456 .bf16 :=
  truncf .bf16 (mulf (mulf (matmul dot_S12288x5120_S3456x5120_S12288x3456_1_1_0_0_n_n (φ₂ := .fp8e4m3) none cd w
      (constant S12288x3456 .f32 0x00000000#32)) (broadcastTo S12288x3456 sc broadcasts_S12288x1_S12288x3456))
    (broadcastTo S12288x3456 (shapeCast S1x3456 ws shapeCasts_S1x3456_S1x3456) broadcasts_S1x3456_S12288x3456))
    bitsLt_bf16_f32

variable (x : Vec Ideal S12288x5120 .bf16) (s : Vec Ideal S1x5120 .f32) (w : Vec Ideal S3456x5120 .fp8e4m3)
  (ws : Vec Ideal S1x3456 .f32)

theorem pay3_steps : k0_pay3 (F := Ideal) x s = expV (sizedV (k0_pay2 x s)) := rfl
theorem pay4_steps : k0_pay4 (F := Ideal) x s = exp2 (k0_pay3 (F := Ideal) x s) := rfl
theorem pay5_steps : k0_pay5 (F := Ideal) x s = codeV (k0_pay2 x s) (invV (k0_pay3 x s)) := rfl
theorem pay1_steps : k0_pay1 (F := Ideal) (k0_pay6 x s w) ws = outV (k0_pay5 x s) (k0_pay4 x s) w ws := rfl

/-! ## The steps at an index -/

theorem quot_at (r : Fin 12288) (k : Fin 5120) : k0_pay2 (F := Ideal) x s (ix2 r k) = quot x s r k := by
  pointwise [k0_pay2, quot]

/-- The row maxima of a matrix. -/
theorem rowMax_at (v : FVec Ideal S12288x5120 .f32) (r : Fin 12288) :
    multiReduction (F := Ideal) .maximumf [1] S12288 v 0xFF800000#32 reduces_S12288x5120_S12288 (.inl rfl) rfl (ix1 r)
      = Finset.univ.fold max (Ideal.ofBits .f32 0xFF800000#32) fun k : Fin 5120 => v (ix2 r k) := by
  pointwise

theorem column_at (u : FVec Ideal S12288 .f32) (r : Fin 12288) (z : Fin 1) :
    mulf (shapeCast S12288x1 u shapeCasts_S12288_S12288x1) (broadcast S12288x1 (Scalar.ofBits (F := Ideal) .f32 0x3B124925#32))
      (ix2 r z) = u (ix1 r) * Ideal.ofBits .f32 0x3B124925#32 := by
  pointwise

theorem sizedV_at (q : FVec Ideal S12288x5120 .f32) (r : Fin 12288) (z : Fin 1) :
    sizedV q (ix2 r z) = sized (fun k => q (ix2 r k)) :=
  (column_at _ r z).trans (congrArg (fun a : EReal => a * Ideal.ofBits .f32 0x3B124925#32) (rowMax_at (absf q) r))

theorem expV_at (t : FVec Ideal S12288x1 .f32) (r : Fin 12288) (z : Fin 1) : expV t (ix2 r z) = rExp (t (ix2 r z)) := by
  pointwise [expV, rExp]

theorem exp2_at (e : FVec Ideal S12288x1 .f32) (r : Fin 12288) (z : Fin 1) :
    exp2 e (ix2 r z) = Ideal.exp2 (e (ix2 r z)) := rfl

theorem invV_at (e : FVec Ideal S12288x1 .f32) (r : Fin 12288) (z : Fin 1) :
    invV e (ix2 r z) = Ideal.exp2 (Ideal.ofBits .f32 0x00000000#32 - e (ix2 r z)) := rfl

theorem codeV_at (q : FVec Ideal S12288x5120 .f32) (i : FVec Ideal S12288x1 .f32) (r : Fin 12288) (k : Fin 5120) :
    codeV q i (ix2 r k) = code (i (ix2 r 0)) (q (ix2 r k)) := by
  pointwise [codeV, code]

theorem outV_at (cd : FVec Ideal S12288x5120 .fp8e4m3) (sc : FVec Ideal S12288x1 .f32) (r : Fin 12288) (n : Fin 3456) :
    outV cd sc w ws (ix2 r n) = outs cd sc w ws (ix2 r n) := by
  pointwise [outV, outs]

theorem outV_eq (cd : FVec Ideal S12288x5120 .fp8e4m3) (sc : FVec Ideal S12288x1 .f32) :
    outV cd sc w ws = outs cd sc w ws := by
  funext j
  idx_vars j
  exact outV_at w ws cd sc _ _

/-! ## The results -/

theorem pay3_at (r : Fin 12288) (z : Fin 1) : k0_pay3 (F := Ideal) x s (ix2 r z) = rExp (sized (quot x s r)) := by
  rw [pay3_steps, expV_at, sizedV_at]
  exact congrArg (fun f => rExp (sized f)) (funext fun k => quot_at x s r k)

theorem pay4_eq : k0_pay4 (F := Ideal) x s = scales rS x s := by
  funext j
  idx_vars j
  rw [pay4_steps, exp2_at, pay3_at, scales_at, rS_eq]

theorem pay5_eq : k0_pay5 (F := Ideal) x s = codes rI x s := by
  funext j
  idx_vars j
  rw [pay5_steps, codeV_at, invV_at, pay3_at, quot_at, codes_at, rI_eq]

theorem pay1_eq : k0_pay1 (F := Ideal) (k0_pay6 x s w) ws = outs (codes rI x s) (scales rS x s) w ws := by
  rw [pay1_steps, pay4_eq, pay5_eq]
  exact outV_eq w ws _ _

end Cert.ReferenceIdeal.Pure

end
-- ==== Proof.RefValue.lean ====
/- The reference's three result arrays after its run, as functions of the argument arrays. -/
module

public import proofs.«01_k».proof.Proof.RefPure
public import Idealize.ShloMosaic.Lib.Pipeline.ValueKit

@[expose] public section

set_option maxRecDepth 16384

noncomputable section

namespace Cert.ReferenceIdeal.Arrays

open Cert.ReferenceIdeal Cert.ReferenceIdeal.Gen Cert.ReferenceIdeal.Pure Cert.Proof
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations as a matrix: one row per token. -/
abbrev xArr (c : Dev nD) : (Sh 12288 5120).Idx → EReal :=
  shapeCast S12288x5120 (m ((c : Thread nD τ).loc main_arg0)) shapeCasts_S8x1536x5120_S12288x5120

/-- The smoothing factors as a row. -/
abbrev sArr (c : Dev nD) : (Sh 1 5120).Idx → EReal :=
  shapeCast S1x5120 (m ((c : Thread nD τ).loc main_arg1)) shapeCasts_S5120_S1x5120

/-- The weights' codes. -/
abbrev wArr (c : Dev nD) : (Sh 3456 5120).Idx → EReal := m ((c : Thread nD τ).loc main_arg2)

/-- The weights' scales as a row. -/
abbrev gArr (c : Dev nD) : (Sh 1 3456).Idx → EReal :=
  shapeCast S1x3456 (m ((c : Thread nD τ).loc main_arg3)) shapeCasts_S3456_S1x3456

theorem V_x (c : Dev nD) : V m c main_v0 = xArr m c := by unfold_abbrev_sides; after_results; rfl
theorem V_s (c : Dev nD) : V m c main_v1 = sArr m c := by unfold_abbrev_sides; after_results; rfl
theorem V_g (c : Dev nD) : V m c main_v2 = gArr m c := by unfold_abbrev_sides; after_results; rfl

theorem e0 : ∀ t : Fin cfg0.N, ∀ a, win0_0.index t a = 0 := (by decide +kernel : ∀ t : Fin grid0.N, ∀ a, win0_0.index t a = 0)
theorem e1 : ∀ t : Fin cfg0.N, ∀ a, win0_1.index t a = 0 := (by decide +kernel : ∀ t : Fin grid0.N, ∀ a, win0_1.index t a = 0)
theorem e2 : ∀ t : Fin cfg0.N, ∀ a, win0_2.index t a = 0 := (by decide +kernel : ∀ t : Fin grid0.N, ∀ a, win0_2.index t a = 0)
theorem e3 : ∀ t : Fin cfg0.N, ∀ a, win0_3.index t a = 0 := (by decide +kernel : ∀ t : Fin grid0.N, ∀ a, win0_3.index t a = 0)
theorem e4 : ∀ t : Fin cfg0.N, ∀ a, win0_4.index t a = 0 := (by decide +kernel : ∀ t : Fin grid0.N, ∀ a, win0_4.index t a = 0)
theorem e5 : ∀ t : Fin cfg0.N, ∀ a, win0_5.index t a = 0 := (by decide +kernel : ∀ t : Fin grid0.N, ∀ a, win0_5.index t a = 0)
theorem e6 : ∀ t : Fin cfg0.N, ∀ a, win0_6.index t a = 0 := (by decide +kernel : ∀ t : Fin grid0.N, ∀ a, win0_6.index t a = 0)

theorem blk_x (c : Dev nD) (t : Fin cfg0.N) : iblk m c 0 t = xArr m c := by
  refine Eq.trans (b := V m c main_v0) (funext fun y => ?_) (V_x m c)
  blk_simp [iblk]
  exact congrArg _ (funext fun a => Fin.ext (by blk_simp; rw [e0 t a, Nat.zero_mul, Nat.zero_add]))
theorem blk_s (c : Dev nD) (t : Fin cfg0.N) : iblk m c 1 t = sArr m c := by
  refine Eq.trans (b := V m c main_v1) (funext fun y => ?_) (V_s m c)
  blk_simp [iblk]
  exact congrArg _ (funext fun a => Fin.ext (by blk_simp; rw [e1 t a, Nat.zero_mul, Nat.zero_add]))
theorem blk_w (c : Dev nD) (t : Fin cfg0.N) : iblk m c 2 t = wArr m c := by
  refine Eq.trans (b := V m c main_arg2) (funext fun y => ?_) (V_main_arg2 m c)
  blk_simp [iblk]
  exact congrArg _ (funext fun a => Fin.ext (by blk_simp; rw [e2 t a, Nat.zero_mul, Nat.zero_add]))
theorem blk_g (c : Dev nD) (t : Fin cfg0.N) : iblk m c 3 t = gArr m c := by
  refine Eq.trans (b := V m c main_v2) (funext fun y => ?_) (V_g m c)
  blk_simp [iblk]
  exact congrArg _ (funext fun a => Fin.ext (by blk_simp; rw [e3 t a, Nat.zero_mul, Nat.zero_add]))

theorem zero2 : (![0, 0] : Fin 2 → ℕ) = fun _ => 0 := by funext a; fin_cases a <;> rfl

/-- The body's results at the blocks it is given. -/
theorem out4 (x0 : Vec Ideal S12288x5120 .bf16) (x1 : Vec Ideal S1x5120 .f32) (x2 : Vec Ideal S3456x5120 .fp8e4m3) (x3 : Vec Ideal S1x3456 .f32) :
    out0_4 x0 x1 x2 x3 = outs (codes rI x0 x1) (scales rS x0 x1) x2 x3 := by
  unfold out0_4
  rw [View.canon_unit_zero zero2, View.ld_unit_zero zero2, View.ld_unit_zero zero2, View.ld_unit_zero zero2, View.ld_unit_zero zero2]
  exact pay1_eq x0 x1 x2 x3

theorem out5 (x0 : Vec Ideal S12288x5120 .bf16) (x1 : Vec Ideal S1x5120 .f32) (x2 : Vec Ideal S3456x5120 .fp8e4m3) (x3 : Vec Ideal S1x3456 .f32) :
    out0_5 x0 x1 x2 x3 = codes rI x0 x1 := by
  unfold out0_5
  rw [View.canon_unit_zero zero2, View.ld_unit_zero zero2, View.ld_unit_zero zero2]
  exact pay5_eq x0 x1

theorem out6 (x0 : Vec Ideal S12288x5120 .bf16) (x1 : Vec Ideal S1x5120 .f32) (x2 : Vec Ideal S3456x5120 .fp8e4m3) (x3 : Vec Ideal S1x3456 .f32) :
    out0_6 x0 x1 x2 x3 = scales rS x0 x1 := by
  unfold out0_6
  rw [View.canon_unit_zero zero2, View.ld_unit_zero zero2, View.ld_unit_zero zero2]
  exact pay4_eq x0 x1

/-- The result arrays after the run. -/
theorem arr4 (c : Dev nD) : (dats m 0 c).arrAt 4 cfg0.N
    = outs (codes rI (xArr m c) (sArr m c)) (scales rS (xArr m c) (sArr m c)) (wArr m c) (gArr m c) := by
  refine (dats m 0 c).arrAt_eq_of_covers 4 _ (by decide +kernel) fun t hf y => ?_
  blk_simp
  rw [after0_4, out4, blk_x, blk_s, blk_w, blk_g]
  exact congrArg _ (funext fun a => Fin.ext (by blk_simp; rw [e4 t a, Nat.zero_mul, Nat.zero_add]))

theorem arr5 (c : Dev nD) : (dats m 0 c).arrAt 5 cfg0.N = codes rI (xArr m c) (sArr m c) := by
  refine (dats m 0 c).arrAt_eq_of_covers 5 _ (by decide +kernel) fun t hf y => ?_
  blk_simp
  rw [after0_5, out5, blk_x, blk_s]
  exact congrArg _ (funext fun a => Fin.ext (by blk_simp; rw [e5 t a, Nat.zero_mul, Nat.zero_add]))

theorem arr6 (c : Dev nD) : (dats m 0 c).arrAt 6 cfg0.N = scales rS (xArr m c) (sArr m c) := by
  refine (dats m 0 c).arrAt_eq_of_covers 6 _ (by decide +kernel) fun t hf y => ?_
  blk_simp
  rw [after0_6, out6, blk_x, blk_s]
  exact congrArg _ (funext fun a => Fin.ext (by blk_simp; rw [e6 t a, Nat.zero_mul, Nat.zero_add]))

/-- The reference's run: its three results are those functions of its arguments, which it leaves as they were. -/
theorem run : θ_run defs (onTc (τ := τ) (main (F := Ideal))) ⟨m, fun _ => 0, ρ⟩ fun r => ∀ c : Dev nD,
      r.2.mem ((c : Thread nD τ).loc main_v3_0)
        = outs (codes rI (xArr m c) (sArr m c)) (scales rS (xArr m c) (sArr m c)) (wArr m c) (gArr m c)
      ∧ r.2.mem ((c : Thread nD τ).loc main_v3_1) = codes rI (xArr m c) (sArr m c)
      ∧ r.2.mem ((c : Thread nD τ).loc main_v3_2) = scales rS (xArr m c) (sArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r h c => ⟨((h c).1 4).trans (arr4 m c), ((h c).1 5).trans (arr5 m c), ((h c).1 6).trans (arr6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.ReferenceIdeal.Arrays

end
-- ==== Proof.Equal.lean ====
/- The two programs' results are equal where the precondition holds. -/
module

public import proofs.«01_k».proof.Defs
public import proofs.«01_k».proof.Proof.Range
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem

/-- Where every quotient is in range, the two programs' codes are equal. -/
theorem codes_agree {n : ℕ} (x : (Sh n 5120).Idx → EReal) (s : (Sh 1 5120).Idx → EReal) (h : ∀ r k, InRange (quot x s r k)) :
    codes kI x s = codes rI x s := by
  funext j
  show code (kI (quot x s (j 0))) (quot x s (j 0) (j 1)) = code (rI (quot x s (j 0))) (quot x s (j 0) (j 1))
  rw [(rules_eq (quot x s (j 0)) (h (j 0))).2]

/-- Where every quotient is in range, the two programs' scales are equal. -/
theorem scales_agree {n : ℕ} (x : (Sh n 5120).Idx → EReal) (s : (Sh 1 5120).Idx → EReal) (h : ∀ r k, InRange (quot x s r k)) :
    scales kS x s = scales rS x s := by
  funext j
  show kS (quot x s (j 0)) = rS (quot x s (j 0))
  rw [(rules_eq (quot x s (j 0)) (h (j 0))).1]

open Cert.KernelIdeal in
/-- Row `r` of the matrix of activations is row `r % 1536` of batch `r / 1536`. -/
theorem matrix_at (v : FVec Ideal S8x1536x5120 .bf16) (h : S8x1536x5120.ShapeCasts S12288x5120) (r : Fin 12288) (k : Fin 5120) :
    shapeCast S12288x5120 v h (ix2 r k) = v (ix3 ⟨r.val / 1536, by omega⟩ ⟨r.val % 1536, by omega⟩ k) := by
  pointwise

open Cert.KernelIdeal in
/-- The row of smoothing factors. -/
theorem row_at (v : FVec Ideal S5120 .f32) (h : S5120.ShapeCasts S1x5120) (k : Fin 5120) :
    shapeCast S1x5120 v h (ix2 0 k) = v (ix1 k) := by
  pointwise

open Cert.KernelIdeal in
/-- Where the precondition holds, every quotient of the matrix is in range. -/
theorem quot_range [Cert.Pre_quotients_in_range.Facts] (x : FVec Ideal S8x1536x5120 .bf16) (s : FVec Ideal S5120 .f32)
    (w : FVec Ideal S3456x5120 .fp8e4m3) (g : FVec Ideal S3456 .f32) (hx : S8x1536x5120.ShapeCasts S12288x5120)
    (hs : S5120.ShapeCasts S1x5120) (h : Cert.Pre_quotients_in_range.fn (F := Ideal) x s w g = fun _ => 1#1)
    (r : Fin 12288) (k : Fin 5120) :
    InRange (quot (n := 12288) (shapeCast S12288x5120 x hx) (shapeCast S1x5120 s hs) r k) := by
  unfold quot
  rw [matrix_at, row_at]
  exact quotient_range x s w g h _ _ _

/-- The two programs compute equal results from equal arguments of which the precondition holds. -/
theorem algebraic [hK : Cert.KernelIdeal.Facts] [hR : Cert.ReferenceIdeal.Facts] [hP : Cert.Pre_quotients_in_range.Facts] :
    Cert.algebraic_KernelIdeal_ReferenceIdeal_pre_quotients_in_range := by
  intro m g m' g' hpre hargs
  have hq (c : Dev Cert.KernelIdeal.nD) : ∀ r k, InRange
      (quot (Cert.KernelIdeal.Arrays.xArr m c) (Cert.KernelIdeal.Arrays.sArr m c) r k) :=
    fun r k => quot_range _ _ _ _ _ _ (hpre c) r k
  have hx (c : Dev Cert.KernelIdeal.nD) : Cert.ReferenceIdeal.Arrays.xArr m' c = Cert.KernelIdeal.Arrays.xArr m c :=
    congrArg (fun v => shapeCast Cert.KernelIdeal.S12288x5120 v _) (hargs c).1
  have hs (c : Dev Cert.KernelIdeal.nD) : Cert.ReferenceIdeal.Arrays.sArr m' c = Cert.KernelIdeal.Arrays.sArr m c :=
    congrArg (fun v => shapeCast Cert.KernelIdeal.S1x5120 v _) (hargs c).2.1
  have hw (c : Dev Cert.KernelIdeal.nD) : Cert.ReferenceIdeal.Arrays.wArr m' c = Cert.KernelIdeal.Arrays.wArr m c :=
    (hargs c).2.2.1
  have hg (c : Dev Cert.KernelIdeal.nD) : Cert.ReferenceIdeal.Arrays.gArr m' c = Cert.KernelIdeal.Arrays.gArr m c :=
    congrArg (fun v => shapeCast Cert.KernelIdeal.S1x3456 v _) (hargs c).2.2.2
  refine ⟨_, _, _, Cert.KernelIdeal.Arrays.run m g, ?_⟩
  refine (θ_run _ _ _).mono (fun r h c => ?_) (Cert.ReferenceIdeal.Arrays.run m' g')
  obtain ⟨h0, h1, h2, hk⟩ := h c
  rw [hx, hs, ← codes_agree _ _ (hq c)] at h0 h1
  rw [hw, hg, ← scales_agree _ _ (hq c)] at h0
  rw [hx, hs, ← scales_agree _ _ (hq c)] at h2
  exact ⟨h0, h1, h2, hk⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Pre_quotients_in_range
public import proofs.«01_k».proof.Proof.Gen.ReferenceIdeal
public import proofs.«01_k».proof.Proof.Gen.ReferenceIdeal.Frame
public import proofs.«01_k».proof.Proof.Equal
public import Idealize.ShloMosaic.Adequacy
public import Idealize.ShloMosaic.Init

@[expose] public section

namespace Cert.Proof

theorem claim : Cert.Claim :=
  ⟨Cert.Kernel.Gen.facts, Cert.KernelIdeal.Gen.facts, Cert.ReferenceIdeal.Gen.facts,
    Cert.Pre_quotients_in_range.Gen.facts, fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, Cert.Proof.algebraic⟩

end Cert.Proof

end
